-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S7x64x512 : Shape := ⟨3, ![7, 64, 512]⟩
abbrev S7x2 : Shape := ⟨2, ![7, 2]⟩
abbrev S_ : Shape := ⟨0, ![]⟩
abbrev S32x256 : Shape := ⟨2, ![32, 256]⟩
abbrev S32x512 : Shape := ⟨2, ![32, 512]⟩
abbrev S1x1 : Shape := ⟨2, ![1, 1]⟩
abbrev S1x32x512 : Shape := ⟨3, ![1, 32, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S7x64x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v15 : BitVec 32 := Scalar.xori v2 c6_i32
  let c1_i32_6 : BitVec 32 := 1#32
  let v16 : BitVec 32 := Scalar.muli v15 c1_i32_6
  let v17 : BitVec 32 := Scalar.addi c0_i32 v16
  v17.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_7 : BitVec 32 := 2#32
  let v18 : BitVec 32 := Scalar.xori v2 c2_i32_7
  let c1_i32_9 : BitVec 32 := 1#32
  let v19 : BitVec 32 := Scalar.muli v18 c1_i32_9
  let v20 : BitVec 32 := Scalar.addi c0_i32_10 v19
  v20.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.xori v2 c5_i32
  let c1_i32_12 : BitVec 32 := 1#32
  let v22 : BitVec 32 := Scalar.muli v21 c1_i32_12
  let v23 : BitVec 32 := Scalar.addi c0_i32_13 v22
  v23.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v24 : BitVec 32 := Scalar.xori v2 c7_i32
  let c1_i32_15 : BitVec 32 := 1#32
  let v25 : BitVec 32 := Scalar.muli v24 c1_i32_15
  let v26 : BitVec 32 := Scalar.addi c0_i32_16 v25
  v26.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v27 : BitVec 32 := Scalar.xori v2 c1_i32_17
  let c1_i32_19 : BitVec 32 := 1#32
  let v28 : BitVec 32 := Scalar.muli v27 c1_i32_19
  let v29 : BitVec 32 := Scalar.addi c0_i32_20 v28
  v29.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.xori v2 c3_i32
  let c1_i32_22 : BitVec 32 := 1#32
  let v31 : BitVec 32 := Scalar.muli v30 c1_i32_22
  let v32 : BitVec 32 := Scalar.addi c0_i32_23 v31
  v32.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v33 : BitVec 32 := Scalar.xori v2 c4_i32_24
  let c1_i32_26 : BitVec 32 := 1#32
  let v34 : BitVec 32 := Scalar.muli v33 c1_i32_26
  let v35 : BitVec 32 := Scalar.addi c0_i32_27 v34
  v35.toNat
def k0_off1 (d0 : Dev nD) (c6_i32_29 : BitVec 32) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.xori v2 c6_i32_29
  let c1_i32_30 : BitVec 32 := 1#32
  let v37 : BitVec 32 := Scalar.andi v36 c1_i32_30
  let c1_i32_31 : BitVec 32 := 1#32
  let v38 : BitVec 32 := Scalar.shrsi v36 c1_i32_31
  let c1_i32_32 : BitVec 32 := 1#32
  let v39 : BitVec 32 := Scalar.andi v38 c1_i32_32
  let v42 : BitVec 32 := Scalar.xori v37 v39
  let c4_i32_35 : BitVec 32 := 4#32
  let v43 : BitVec 32 := Scalar.muli v42 c4_i32_35
  let c2_i32_36 : BitVec 32 := 2#32
  let v44 : BitVec 32 := Scalar.muli v39 c2_i32_36
  let v45 : BitVec 32 := Scalar.addi v43 v44
  let c2_i32_33 : BitVec 32 := 2#32
  let v40 : BitVec 32 := Scalar.shrsi v36 c2_i32_33
  let c1_i32_34 : BitVec 32 := 1#32
  let v41 : BitVec 32 := Scalar.andi v40 c1_i32_34
  let v46 : BitVec 32 := Scalar.addi v45 v41
  let c64_i32_37 : BitVec 32 := 64#32
  let v47 : BitVec 32 := Scalar.muli v46 c64_i32_37
  let v48 : BitVec 32 := Scalar.addi v47 c0_i32_38
  let v49 : Index := Scalar.indexCast v48
  let c0 : Index := 0#32
  ![v49.toNat, 0]
def k0_off2 (d0 : Dev nD) (c6_i32_29 : BitVec 32) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.xori v2 c6_i32_29
  let c1_i32_30 : BitVec 32 := 1#32
  let v37 : BitVec 32 := Scalar.andi v36 c1_i32_30
  let c1_i32_31 : BitVec 32 := 1#32
  let v38 : BitVec 32 := Scalar.shrsi v36 c1_i32_31
  let c1_i32_32 : BitVec 32 := 1#32
  let v39 : BitVec 32 := Scalar.andi v38 c1_i32_32
  let v42 : BitVec 32 := Scalar.xori v37 v39
  let c4_i32_35 : BitVec 32 := 4#32
  let v43 : BitVec 32 := Scalar.muli v42 c4_i32_35
  let c2_i32_36 : BitVec 32 := 2#32
  let v44 : BitVec 32 := Scalar.muli v39 c2_i32_36
  let v45 : BitVec 32 := Scalar.addi v43 v44
  let c2_i32_33 : BitVec 32 := 2#32
  let v40 : BitVec 32 := Scalar.shrsi v36 c2_i32_33
  let c1_i32_34 : BitVec 32 := 1#32
  let v41 : BitVec 32 := Scalar.andi v40 c1_i32_34
  let v46 : BitVec 32 := Scalar.addi v45 v41
  let c64_i32_37 : BitVec 32 := 64#32
  let v47 : BitVec 32 := Scalar.muli v46 c64_i32_37
  let v48 : BitVec 32 := Scalar.addi v47 c0_i32_38
  let v55 : Index := Scalar.indexCast v48
  let c0_41 : Index := 0#32
  ![v55.toNat, 0]
def k0_off3 (d0 : Dev nD) (c6_i32_29 : BitVec 32) (c0_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.xori v2 c6_i32_29
  let c1_i32_30 : BitVec 32 := 1#32
  let v37 : BitVec 32 := Scalar.andi v36 c1_i32_30
  let c1_i32_31 : BitVec 32 := 1#32
  let v38 : BitVec 32 := Scalar.shrsi v36 c1_i32_31
  let c1_i32_32 : BitVec 32 := 1#32
  let v39 : BitVec 32 := Scalar.andi v38 c1_i32_32
  let v42 : BitVec 32 := Scalar.xori v37 v39
  let c4_i32_35 : BitVec 32 := 4#32
  let v43 : BitVec 32 := Scalar.muli v42 c4_i32_35
  let c2_i32_36 : BitVec 32 := 2#32
  let v44 : BitVec 32 := Scalar.muli v39 c2_i32_36
  let v45 : BitVec 32 := Scalar.addi v43 v44
  let c2_i32_33 : BitVec 32 := 2#32
  let v40 : BitVec 32 := Scalar.shrsi v36 c2_i32_33
  let c1_i32_34 : BitVec 32 := 1#32
  let v41 : BitVec 32 := Scalar.andi v40 c1_i32_34
  let v46 : BitVec 32 := Scalar.addi v45 v41
  let c64_i32_37 : BitVec 32 := 64#32
  let v47 : BitVec 32 := Scalar.muli v46 c64_i32_37
  let v48 : BitVec 32 := Scalar.addi v47 c0_i32_38
  let c0_i32_51 : BitVec 32 := 0#32
  ![v48.toNat, 0]
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_29 : BitVec 32 := 6#32
  let v36 : BitVec 32 := Scalar.xori v2 c6_i32_29
  let c1_i32_47 : BitVec 32 := 1#32
  let v57 : BitVec 32 := Scalar.muli v36 c1_i32_47
  let v58 : BitVec 32 := Scalar.addi c0_i32_48 v57
  v58.toNat
def k0_dev9 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_52 : BitVec 32 := 2#32
  let v66 : BitVec 32 := Scalar.xori v2 c2_i32_52
  let c1_i32_72 : BitVec 32 := 1#32
  let v87 : BitVec 32 := Scalar.muli v66 c1_i32_72
  let v88 : BitVec 32 := Scalar.addi c0_i32_73 v87
  v88.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v96 : BitVec 32 := Scalar.xori v2 c5_i32_77
  let c1_i32_97 : BitVec 32 := 1#32
  let v117 : BitVec 32 := Scalar.muli v96 c1_i32_97
  let v118 : BitVec 32 := Scalar.addi c0_i32_98 v117
  v118.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_102 : BitVec 32 := 7#32
  let v126 : BitVec 32 := Scalar.xori v2 c7_i32_102
  let c1_i32_122 : BitVec 32 := 1#32
  let v147 : BitVec 32 := Scalar.muli v126 c1_i32_122
  let v148 : BitVec 32 := Scalar.addi c0_i32_123 v147
  v148.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_127 : BitVec 32 := 1#32
  let v156 : BitVec 32 := Scalar.xori v2 c1_i32_127
  let c1_i32_147 : BitVec 32 := 1#32
  let v177 : BitVec 32 := Scalar.muli v156 c1_i32_147
  let v178 : BitVec 32 := Scalar.addi c0_i32_148 v177
  v178.toNat
def k0_dev13 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_152 : BitVec 32 := 3#32
  let v186 : BitVec 32 := Scalar.xori v2 c3_i32_152
  let c1_i32_172 : BitVec 32 := 1#32
  let v207 : BitVec 32 := Scalar.muli v186 c1_i32_172
  let v208 : BitVec 32 := Scalar.addi c0_i32_173 v207
  v208.toNat
def k0_dev14 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_177 : BitVec 32 := 4#32
  let v216 : BitVec 32 := Scalar.xori v2 c4_i32_177
  let c1_i32_197 : BitVec 32 := 1#32
  let v237 : BitVec 32 := Scalar.muli v216 c1_i32_197
  let v238 : BitVec 32 := Scalar.addi c0_i32_198 v237
  v238.toNat
def k0_off4 (d0 : Dev nD) (c0_i32_202 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c4_i32 : BitVec 32 := 4#32
  let v9 : BitVec 32 := Scalar.muli v8 c4_i32
  let c2_i32_4 : BitVec 32 := 2#32
  let v10 : BitVec 32 := Scalar.muli v5 c2_i32_4
  let v11 : BitVec 32 := Scalar.addi v9 v10
  let c2_i32 : BitVec 32 := 2#32
  let v6 : BitVec 32 := Scalar.shrsi v2 c2_i32
  let c1_i32_3 : BitVec 32 := 1#32
  let v7 : BitVec 32 := Scalar.andi v6 c1_i32_3
  let v12 : BitVec 32 := Scalar.addi v11 v7
  let c64_i32 : BitVec 32 := 64#32
  let v13 : BitVec 32 := Scalar.muli v12 c64_i32
  let v246 : BitVec 32 := Scalar.addi v13 c0_i32_202
  let v247 : Index := Scalar.indexCast v246
  let c0_203 : Index := 0#32
  ![v247.toNat, 0]
def k0_off5 (d0 : Dev nD) (c0_i32_202 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c4_i32 : BitVec 32 := 4#32
  let v9 : BitVec 32 := Scalar.muli v8 c4_i32
  let c2_i32_4 : BitVec 32 := 2#32
  let v10 : BitVec 32 := Scalar.muli v5 c2_i32_4
  let v11 : BitVec 32 := Scalar.addi v9 v10
  let c2_i32 : BitVec 32 := 2#32
  let v6 : BitVec 32 := Scalar.shrsi v2 c2_i32
  let c1_i32_3 : BitVec 32 := 1#32
  let v7 : BitVec 32 := Scalar.andi v6 c1_i32_3
  let v12 : BitVec 32 := Scalar.addi v11 v7
  let c64_i32 : BitVec 32 := 64#32
  let v13 : BitVec 32 := Scalar.muli v12 c64_i32
  let v246 : BitVec 32 := Scalar.addi v13 c0_i32_202
  let v253 : Index := Scalar.indexCast v246
  let c0_207 : Index := 0#32
  ![v253.toNat, 0]
def k0_dev15 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_208 : BitVec 32 := 6#32
  let v255 : BitVec 32 := Scalar.xori v2 c6_i32_208
  let c1_i32_227 : BitVec 32 := 1#32
  let v276 : BitVec 32 := Scalar.muli v255 c1_i32_227
  let v277 : BitVec 32 := Scalar.addi c0_i32_228 v276
  v277.toNat
def k0_dev16 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_232 : BitVec 32 := 2#32
  let v285 : BitVec 32 := Scalar.xori v2 c2_i32_232
  let c1_i32_252 : BitVec 32 := 1#32
  let v306 : BitVec 32 := Scalar.muli v285 c1_i32_252
  let v307 : BitVec 32 := Scalar.addi c0_i32_253 v306
  v307.toNat
def k0_dev17 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_257 : BitVec 32 := 5#32
  let v315 : BitVec 32 := Scalar.xori v2 c5_i32_257
  let c1_i32_277 : BitVec 32 := 1#32
  let v336 : BitVec 32 := Scalar.muli v315 c1_i32_277
  let v337 : BitVec 32 := Scalar.addi c0_i32_278 v336
  v337.toNat
def k0_dev18 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_282 : BitVec 32 := 7#32
  let v345 : BitVec 32 := Scalar.xori v2 c7_i32_282
  let c1_i32_302 : BitVec 32 := 1#32
  let v366 : BitVec 32 := Scalar.muli v345 c1_i32_302
  let v367 : BitVec 32 := Scalar.addi c0_i32_303 v366
  v367.toNat
def k0_dev19 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_307 : BitVec 32 := 1#32
  let v375 : BitVec 32 := Scalar.xori v2 c1_i32_307
  let c1_i32_327 : BitVec 32 := 1#32
  let v396 : BitVec 32 := Scalar.muli v375 c1_i32_327
  let v397 : BitVec 32 := Scalar.addi c0_i32_328 v396
  v397.toNat
def k0_dev20 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_332 : BitVec 32 := 3#32
  let v405 : BitVec 32 := Scalar.xori v2 c3_i32_332
  let c1_i32_352 : BitVec 32 := 1#32
  let v426 : BitVec 32 := Scalar.muli v405 c1_i32_352
  let v427 : BitVec 32 := Scalar.addi c0_i32_353 v426
  v427.toNat
def k0_dev21 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_357 : BitVec 32 := 4#32
  let v435 : BitVec 32 := Scalar.xori v2 c4_i32_357
  let c1_i32_377 : BitVec 32 := 1#32
  let v456 : BitVec 32 := Scalar.muli v435 c1_i32_377
  let v457 : BitVec 32 := Scalar.addi c0_i32_378 v456
  v457.toNat
def k0_off6 (d0 : Dev nD) (c0_i32_388 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c4_i32 : BitVec 32 := 4#32
  let v9 : BitVec 32 := Scalar.muli v8 c4_i32
  let c2_i32_4 : BitVec 32 := 2#32
  let v10 : BitVec 32 := Scalar.muli v5 c2_i32_4
  let v11 : BitVec 32 := Scalar.addi v9 v10
  let c2_i32 : BitVec 32 := 2#32
  let v6 : BitVec 32 := Scalar.shrsi v2 c2_i32
  let c1_i32_3 : BitVec 32 := 1#32
  let v7 : BitVec 32 := Scalar.andi v6 c1_i32_3
  let v12 : BitVec 32 := Scalar.addi v11 v7
  let c64_i32 : BitVec 32 := 64#32
  let v13 : BitVec 32 := Scalar.muli v12 c64_i32
  let v474 : BitVec 32 := Scalar.addi v13 c0_i32_388
  let c0_i32_498 : BitVec 32 := 0#32
  ![v474.toNat, 0]
def k0_dev22 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_491 : BitVec 32 := 6#32
  let v587 : BitVec 32 := Scalar.xori v2 c6_i32_491
  let c1_i32_496 : BitVec 32 := 1#32
  let v588 : BitVec 32 := Scalar.muli v587 c1_i32_496
  let v589 : BitVec 32 := Scalar.addi c0_i32_497 v588
  v589.toNat
def k0_dev23 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_500 : BitVec 32 := 2#32
  let v596 : BitVec 32 := Scalar.xori v2 c2_i32_500
  let c1_i32_505 : BitVec 32 := 1#32
  let v597 : BitVec 32 := Scalar.muli v596 c1_i32_505
  let v598 : BitVec 32 := Scalar.addi c0_i32_506 v597
  v598.toNat
def k0_dev24 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_509 : BitVec 32 := 5#32
  let v605 : BitVec 32 := Scalar.xori v2 c5_i32_509
  let c1_i32_514 : BitVec 32 := 1#32
  let v606 : BitVec 32 := Scalar.muli v605 c1_i32_514
  let v607 : BitVec 32 := Scalar.addi c0_i32_515 v606
  v607.toNat
def k0_dev25 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_518 : BitVec 32 := 7#32
  let v614 : BitVec 32 := Scalar.xori v2 c7_i32_518
  let c1_i32_523 : BitVec 32 := 1#32
  let v615 : BitVec 32 := Scalar.muli v614 c1_i32_523
  let v616 : BitVec 32 := Scalar.addi c0_i32_524 v615
  v616.toNat
def k0_dev26 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_527 : BitVec 32 := 1#32
  let v623 : BitVec 32 := Scalar.xori v2 c1_i32_527
  let c1_i32_532 : BitVec 32 := 1#32
  let v624 : BitVec 32 := Scalar.muli v623 c1_i32_532
  let v625 : BitVec 32 := Scalar.addi c0_i32_533 v624
  v625.toNat
def k0_dev27 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_536 : BitVec 32 := 3#32
  let v632 : BitVec 32 := Scalar.xori v2 c3_i32_536
  let c1_i32_541 : BitVec 32 := 1#32
  let v633 : BitVec 32 := Scalar.muli v632 c1_i32_541
  let v634 : BitVec 32 := Scalar.addi c0_i32_542 v633
  v634.toNat
def k0_dev28 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_545 : BitVec 32 := 4#32
  let v641 : BitVec 32 := Scalar.xori v2 c4_i32_545
  let c1_i32_550 : BitVec 32 := 1#32
  let v642 : BitVec 32 := Scalar.muli v641 c1_i32_550
  let v643 : BitVec 32 := Scalar.addi c0_i32_551 v642
  v643.toNat
def k0_dev29 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_662 : BitVec 32 := 6#32
  let v763 : BitVec 32 := Scalar.xori v2 c6_i32_662
  let c1_i32_667 : BitVec 32 := 1#32
  let v764 : BitVec 32 := Scalar.muli v763 c1_i32_667
  let v765 : BitVec 32 := Scalar.addi c0_i32_668 v764
  v765.toNat
def k0_dev30 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_671 : BitVec 32 := 2#32
  let v772 : BitVec 32 := Scalar.xori v2 c2_i32_671
  let c1_i32_676 : BitVec 32 := 1#32
  let v773 : BitVec 32 := Scalar.muli v772 c1_i32_676
  let v774 : BitVec 32 := Scalar.addi c0_i32_677 v773
  v774.toNat
def k0_dev31 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_680 : BitVec 32 := 5#32
  let v781 : BitVec 32 := Scalar.xori v2 c5_i32_680
  let c1_i32_685 : BitVec 32 := 1#32
  let v782 : BitVec 32 := Scalar.muli v781 c1_i32_685
  let v783 : BitVec 32 := Scalar.addi c0_i32_686 v782
  v783.toNat
def k0_dev32 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_689 : BitVec 32 := 7#32
  let v790 : BitVec 32 := Scalar.xori v2 c7_i32_689
  let c1_i32_694 : BitVec 32 := 1#32
  let v791 : BitVec 32 := Scalar.muli v790 c1_i32_694
  let v792 : BitVec 32 := Scalar.addi c0_i32_695 v791
  v792.toNat
def k0_dev33 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_698 : BitVec 32 := 1#32
  let v799 : BitVec 32 := Scalar.xori v2 c1_i32_698
  let c1_i32_703 : BitVec 32 := 1#32
  let v800 : BitVec 32 := Scalar.muli v799 c1_i32_703
  let v801 : BitVec 32 := Scalar.addi c0_i32_704 v800
  v801.toNat
def k0_dev34 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_707 : BitVec 32 := 3#32
  let v808 : BitVec 32 := Scalar.xori v2 c3_i32_707
  let c1_i32_712 : BitVec 32 := 1#32
  let v809 : BitVec 32 := Scalar.muli v808 c1_i32_712
  let v810 : BitVec 32 := Scalar.addi c0_i32_713 v809
  v810.toNat
def k0_dev35 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_716 : BitVec 32 := 4#32
  let v817 : BitVec 32 := Scalar.xori v2 c4_i32_716
  let c1_i32_721 : BitVec 32 := 1#32
  let v818 : BitVec 32 := Scalar.muli v817 c1_i32_721
  let v819 : BitVec 32 := Scalar.addi c0_i32_722 v818
  v819.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Listed.lean ====
/-
# The kernel body as lists of steps

The printed body is straight-line: seven signals, a wait, and then the same few steps at the seven peers and the two
row chunks. Here each kind of step is written once, at a peer index `r` (the peer is the device whose id differs by the
mask `r + 1`) and a chunk `k`, and the body is the steps run over the list of peers in the kernel's own order.
-/
module

public import proofs.«01_k».proof.Proof.Gen.KernelIdeal.Skeleton
public import Idealize.ShloMosaic.Lib.Pipeline.Regions

@[expose] public section

noncomputable section

namespace Cert.KernelIdeal.Work

open Cert.KernelIdeal Cert.KernelIdeal.Gen
open Idealize.ShloMosaic Idealize.SL.Sem

variable {F : FTy → Type} [FloatOps F]

/-- The programs of this kernel. -/
abbrev Steps (F : FTy → Type) [FloatOps F] := Prog (TpuEff nD τ sig (Elt F) Λ₀ .tc) PUnit

/-- The peers in the order the kernel visits them: masks 6, 2, 5, 7, 1, 3, 4. -/
abbrev order : List (Fin 7) := [5, 1, 4, 6, 0, 2, 3]

/-- The peer's mask and a chunk's row offset, as the words the printed index arithmetic takes. -/
abbrev maskW (r : Fin 7) : BitVec 32 := BitVec.ofNat 32 (1 + r.val)
abbrev chunkW (k : Fin 2) : BitVec 32 := BitVec.ofNat 32 (32 * k.val)

/-- Run a step at each entry of a list, in order, and go on. -/
def each {α : Type} (f : α → Steps F → Steps F) : List α → Steps F → Steps F
  | [], K => K
  | a :: l, K => f a (each f l K)

/-- The device a step at mask `r + 1` addresses, as the printed text computes it: the signals, -/
def sigDev (c : Dev nD) : Fin 7 → Dev nD
  | 5 => ⟨k0_dev1 c, k0_dev1_lt c⟩ | 1 => ⟨k0_dev2 c, k0_dev2_lt c⟩ | 4 => ⟨k0_dev3 c, k0_dev3_lt c⟩ | 6 => ⟨k0_dev4 c, k0_dev4_lt c⟩
  | 0 => ⟨k0_dev5 c, k0_dev5_lt c⟩ | 2 => ⟨k0_dev6 c, k0_dev6_lt c⟩ | 3 => ⟨k0_dev7 c, k0_dev7_lt c⟩
/-- the copies of partial products, -/
def partDev (c : Dev nD) : Fin 2 → Fin 7 → Dev nD
  | 0, 5 => ⟨k0_dev8 c, k0_dev8_lt c⟩ | 0, 1 => ⟨k0_dev9 c, k0_dev9_lt c⟩ | 0, 4 => ⟨k0_dev10 c, k0_dev10_lt c⟩
  | 0, 6 => ⟨k0_dev11 c, k0_dev11_lt c⟩ | 0, 0 => ⟨k0_dev12 c, k0_dev12_lt c⟩ | 0, 2 => ⟨k0_dev13 c, k0_dev13_lt c⟩
  | 0, 3 => ⟨k0_dev14 c, k0_dev14_lt c⟩
  | 1, 5 => ⟨k0_dev15 c, k0_dev15_lt c⟩ | 1, 1 => ⟨k0_dev16 c, k0_dev16_lt c⟩ | 1, 4 => ⟨k0_dev17 c, k0_dev17_lt c⟩
  | 1, 6 => ⟨k0_dev18 c, k0_dev18_lt c⟩ | 1, 0 => ⟨k0_dev19 c, k0_dev19_lt c⟩ | 1, 2 => ⟨k0_dev20 c, k0_dev20_lt c⟩
  | 1, 3 => ⟨k0_dev21 c, k0_dev21_lt c⟩
/-- and the copies of finished rows. -/
def doneDev (c : Dev nD) : Fin 2 → Fin 7 → Dev nD
  | 0, 5 => ⟨k0_dev22 c, k0_dev22_lt c⟩ | 0, 1 => ⟨k0_dev23 c, k0_dev23_lt c⟩ | 0, 4 => ⟨k0_dev24 c, k0_dev24_lt c⟩
  | 0, 6 => ⟨k0_dev25 c, k0_dev25_lt c⟩ | 0, 0 => ⟨k0_dev26 c, k0_dev26_lt c⟩ | 0, 2 => ⟨k0_dev27 c, k0_dev27_lt c⟩
  | 0, 3 => ⟨k0_dev28 c, k0_dev28_lt c⟩
  | 1, 5 => ⟨k0_dev29 c, k0_dev29_lt c⟩ | 1, 1 => ⟨k0_dev30 c, k0_dev30_lt c⟩ | 1, 4 => ⟨k0_dev31 c, k0_dev31_lt c⟩
  | 1, 6 => ⟨k0_dev32 c, k0_dev32_lt c⟩ | 1, 0 => ⟨k0_dev33 c, k0_dev33_lt c⟩ | 1, 2 => ⟨k0_dev34 c, k0_dev34_lt c⟩
  | 1, 3 => ⟨k0_dev35 c, k0_dev35_lt c⟩

theorem inb_sem : ∀ (r : Fin 7) (k : Fin 2), ∀ a, (![r.val, k.val] : Fin 2 → ℕ) a + S1x1.size a ≤ S7x2.size a := by decide
theorem inb_slot : ∀ (r : Fin 7) (k : Fin 2), ∀ a, (![r.val, 32 * k.val, 0] : Fin 3 → ℕ) a + S1x32x512.size a ≤ S7x64x512.size a := by decide

/-- The semaphore of a table at a peer and a chunk. -/
abbrev semAt (s : DmaSems sig S7x2) (r : Fin 7) (k : Fin 2) : DmaSem sig :=
  ((s.slice (Rect.unit (s := S7x2) ![r.val, k.val] S1x1.size (inb_sem r k))).squeeze S_ squeezes_S1x1_S_).sem

/-- The landing slot of a peer and a chunk: the rectangle, and the memref the copies name. -/
abbrev slotR (r : Fin 7) (k : Fin 2) : Rect S7x64x512 := Rect.unit (s := S7x64x512) ![r.val, 32 * k.val, 0] S1x32x512.size (inb_slot r k)
abbrev slotM (M : Memref sig .tc .vmem S7x64x512 .f32) (r : Fin 7) (k : Fin 2) : Memref sig .tc .vmem S32x512 .f32 :=
  (M.slice (slotR r k) (fun _ => rfl)).squeeze S32x512 squeezes_S1x32x512_S32x512

/-- A peer's rows of the result, as a copy names them, -/
abbrev peerM (M : Memref sig .tc .vmem S512x512 .f32) (c : Dev nD) (r : Fin 7) (k : Fin 2) : Memref sig .tc .vmem S32x512 .f32 :=
  M.slice (Rect.unit (s := S512x512) (k0_off3 c (maskW r) (chunkW k)) S32x512.size (k0_off3_inb c r k)) (fun _ => rfl)
/-- and the device's own. -/
abbrev ownM (M : Memref sig .tc .vmem S512x512 .f32) (c : Dev nD) (k : Fin 2) : Memref sig .tc .vmem S32x512 .f32 :=
  M.slice (Rect.unit (s := S512x512) (k0_off6 c (chunkW k)) S32x512.size (k0_off6_inb c k)) (fun _ => rfl)
/-- The rectangles of the loads and stores: a peer's rows and the device's own, of the left factor and of the result. -/
abbrev peerA (c : Dev nD) (r : Fin 7) (k : Fin 2) : Rect S512x256 := Rect.unit (s := S512x256) (k0_off1 c (maskW r) (chunkW k)) S32x256.size (k0_off1_inb c r k)
abbrev peerR (c : Dev nD) (r : Fin 7) (k : Fin 2) : Rect S512x512 := Rect.unit (s := S512x512) (k0_off2 c (maskW r) (chunkW k)) S32x512.size (k0_off2_inb c r k)
abbrev ownA (c : Dev nD) (k : Fin 2) : Rect S512x256 := Rect.unit (s := S512x256) (k0_off4 c (chunkW k)) S32x256.size (k0_off4_inb c k)
abbrev ownR (c : Dev nD) (k : Fin 2) : Rect S512x512 := Rect.unit (s := S512x512) (k0_off5 c (chunkW k)) S32x512.size (k0_off5_inb c k)
abbrev wholeB : Rect S256x512 := Rect.unit (s := S256x512) ![0, 0] S256x512.size inb_S256x512_S256x512_0_0

/-- The pure values stored: a chunk's product, the sum with a landed chunk, the larger of it and zero. -/
abbrev prodV (a : Vec F S32x256 .f32) (b : Vec F S256x512 .f32) : FVec F S32x512 .f32 := k0_pay2 a b
abbrev plusV (x : Vec F S32x512 .f32) (y : Vec F S1x32x512 .f32) : FVec F S32x512 .f32 := k0_pay17 x y
abbrev reluV (x : Vec F S32x512 .f32) : FVec F S32x512 .f32 := k0_pay33 x

section Steps

variable (arg0 : Memref sig .tc .vmem S512x256 .f32) (arg1 : Memref sig .tc .vmem S256x512 .f32)
  (arg2 : Memref sig .tc .vmem S512x512 .f32) (arg3 : Memref sig .tc .vmem S7x64x512 .f32)
  (arg4 arg5 arg6 arg7 : DmaSems sig S7x2) (c : Dev nD)

/-- The barrier semaphore. -/
abbrev barSem : Sem sig := (SemArray.scalar (sig.barrier 0 rfl) : Sems sig S_).sem

/-- Signal a peer's barrier. -/
def stepSig (r : Fin 7) (K : Steps F) : Steps F := .op (.semSignal (sigDev c r, .tc) barSem (1#32).toInt) fun _ => K
/-- Wait for the seven signals. -/
def stepBar (K : Steps F) : Steps F := .op (.semWait barSem (7#32).toInt) fun _ => K

/-- Multiply a peer's rows, store the product there and copy it to the peer's landing slot. -/
def stepPart (k : Fin 2) (r : Fin 7) (K : Steps F) : Steps F :=
  .op (.load arg0 (peerA c r k).toLoadRect (View.loadsAt_vmem h_S32x256)) fun a =>
  .op (.load arg1 wholeB.toLoadRect (View.loadsAt_vmem h_S256x512)) fun b =>
  .op (.load arg2 (peerR c r k).toLoadRect (View.loadsAt_vmem h_S32x512)) fun _ =>
  .op (.store arg2 (peerR c r k) (prodV a b) Finset.univ (View.stores_vmem_bits_univ h_S32x512 rfl) (.inl rfl)) fun _ =>
  .op (.enqueueDma (peerM arg2 c r k) (.remote (Dev.tc (partDev c k r)) (slotM arg3 r k) (.dma (semAt arg4 r k))) (.dma (semAt arg5 r k))
    (View.wordExact_bits rfl) ((View.wordExact_bits rfl).reshape _ _) ⟨⟨rfl, Or.inl rfl⟩, trivial⟩) fun _ => K

/-- Multiply the device's own rows and store the product there. -/
def stepOwn (k : Fin 2) (K : Steps F) : Steps F :=
  .op (.load arg0 (ownA c k).toLoadRect (View.loadsAt_vmem h_S32x256)) fun a =>
  .op (.load arg1 wholeB.toLoadRect (View.loadsAt_vmem h_S256x512)) fun b =>
  .op (.load arg2 (ownR c k).toLoadRect (View.loadsAt_vmem h_S32x512)) fun _ =>
  .op (.store arg2 (ownR c k) (prodV a b) Finset.univ (View.stores_vmem_bits_univ h_S32x512 rfl) (.inl rfl)) fun _ => K

/-- Wait for a peer's partial product and add it to the own rows. -/
def stepAcc (k : Fin 2) (r : Fin 7) (K : Steps F) : Steps F :=
  .op (.waitDma2 (semAt arg5 r k) (peerM arg2 c r k) (slotM arg3 r k) (View.wordExact_bits rfl) ((View.wordExact_bits rfl).reshape _ _)) fun _ =>
  .op (.load arg2 (ownR c k).toLoadRect (View.loadsAt_vmem h_S32x512)) fun x =>
  .op (.load arg3 (slotR r k).toLoadRect (View.loadsAt_vmem h_S1x32x512)) fun y =>
  .op (.load arg2 (ownR c k).toLoadRect (View.loadsAt_vmem h_S32x512)) fun _ =>
  .op (.store arg2 (ownR c k) (plusV x y) Finset.univ (View.stores_vmem_bits_univ h_S32x512 rfl) (.inl rfl)) fun _ => K

/-- Take the larger of the own rows and zero. -/
def stepRelu (k : Fin 2) (K : Steps F) : Steps F :=
  .op (.load arg2 (ownR c k).toLoadRect (View.loadsAt_vmem h_S32x512)) fun x =>
  .op (.load arg2 (ownR c k).toLoadRect (View.loadsAt_vmem h_S32x512)) fun _ =>
  .op (.store arg2 (ownR c k) (reluV x) Finset.univ (View.stores_vmem_bits_univ h_S32x512 rfl) (.inl rfl)) fun _ => K

/-- Copy the finished own rows to a peer. -/
def stepDone (k : Fin 2) (r : Fin 7) (K : Steps F) : Steps F :=
  .op (.enqueueDma (ownM arg2 c k) (.remote (Dev.tc (doneDev c k r)) (ownM arg2 c k) (.dma (semAt arg6 r k))) (.dma (semAt arg7 r k))
    (View.wordExact_bits rfl) (View.wordExact_bits rfl) ⟨⟨rfl, Or.inl rfl⟩, trivial⟩) fun _ => K

/-- Wait for a peer's finished rows, -/
def stepTake (x : Fin 7 × Fin 2) (K : Steps F) : Steps F :=
  .op (.waitDma2 (semAt arg7 x.1 x.2) (ownM arg2 c x.2) (peerM arg2 c x.1 x.2) (View.wordExact_bits rfl) (View.wordExact_bits rfl)) fun _ => K
/-- for the copy of a partial product to have left, -/
def stepLeftPart (k : Fin 2) (r : Fin 7) (K : Steps F) : Steps F :=
  .op (.waitDma2 (semAt arg4 r k) (slotM arg3 r k) (peerM arg2 c r k) ((View.wordExact_bits rfl).reshape _ _) (View.wordExact_bits rfl)) fun _ => K
/-- for the copy of finished rows to have left. -/
def stepLeftDone (k : Fin 2) (r : Fin 7) (K : Steps F) : Steps F :=
  .op (.waitDma2 (semAt arg6 r k) (ownM arg2 c k) (ownM arg2 c k) (View.wordExact_bits rfl) (View.wordExact_bits rfl)) fun _ => K

/-- The whole body after the device id is read. -/
def listed : Steps F :=
  each (stepSig c) order <| stepBar <|
  each (fun k K => each (stepPart arg0 arg1 arg2 arg3 arg4 arg5 c k) order <| stepOwn arg0 arg1 arg2 c k K) [0, 1] <|
  each (fun k K => each (stepAcc arg2 arg3 arg5 c k) order <| stepRelu arg2 c k <| each (stepDone arg2 arg6 arg7 c k) order K) [0, 1] <|
  each (stepTake arg2 arg7 c) (order.flatMap fun r => [(r, 0), (r, 1)]) <|
  each (fun k K => each (stepLeftPart arg2 arg3 arg4 c k) order K) [0, 1] <|
  each (fun k K => each (stepLeftDone arg2 arg6 c k) order K) [0, 1] <| .ret ⟨⟩

end Steps

set_option maxRecDepth 100000 in
/-- The printed body reads its device id and runs the listed steps. -/
theorem cc0_body_eq_listed (arg0 : Memref sig .tc .vmem S512x256 .f32) (harg0 : arg0.IsWhole) (arg1 : Memref sig .tc .vmem S256x512 .f32) (harg1 : arg1.IsWhole)
    (arg2 : Memref sig .tc .vmem S512x512 .f32) (harg2 : arg2.IsWhole) (arg3 : Memref sig .tc .vmem S7x64x512 .f32) (harg3 : arg3.IsWhole)
    (arg4 arg5 arg6 arg7 : DmaSems sig S7x2) :
    cc0_body (F := F) arg0 harg0 arg1 harg1 arg2 harg2 arg3 harg3 arg4 arg5 arg6 arg7
      = .op .deviceId fun c => listed arg0 arg1 arg2 arg3 arg4 arg5 arg6 arg7 c := by
  chain_rfl

end Cert.KernelIdeal.Work

end
-- ==== Proof.Contents.lean ====
/-
# Peers, row chunks and the values in them

A device's peer at index `r` is the device whose id differs from its own by the mask `r + 1`. The result has sixteen
chunks of 32 rows, two per device; the landing buffer has fourteen slots, one per peer and chunk. This module gives the
closed form of the printed index arithmetic, splits the two buffers into their chunks, and names the values the chunks hold.
-/
module

public import proofs.«01_k».proof.Proof.Listed
public import Idealize.ShloMosaic.Lib.MemrefSat

@[expose] public section

noncomputable section

namespace Cert.KernelIdeal.Work

open Cert.KernelIdeal Cert.KernelIdeal.Gen
open Idealize.ShloMosaic Idealize.SL.Sem

variable {F : FTy → Type} [FloatOps F]

/-! ## Peers -/

/-- The device whose id differs from `c`'s by the mask `r + 1`. -/
def peer (c : Dev nD) (r : Fin 7) : Dev nD := ⟨(c.val ^^^ (r.val + 1)) % 8, Nat.mod_lt _ (by decide)⟩

theorem peer_peer : ∀ (c : Dev nD) (r : Fin 7), peer (peer c r) r = c := by decide +kernel
theorem peer_ne : ∀ (c : Dev nD) (r : Fin 7), peer c r ≠ c := by decide +kernel
theorem peer_inj : ∀ (c : Dev nD) (r r' : Fin 7), peer c r = peer c r' → r = r' := by decide +kernel
theorem exists_peer : ∀ (c e : Dev nD), e ≠ c → ∃ r, e = peer c r := by decide +kernel
theorem peer_eq_iff : ∀ (c e : Dev nD) (r : Fin 7), c = peer e r ↔ e = peer c r := by decide +kernel

theorem sigDev_eq : ∀ (c : Dev nD) (r : Fin 7), sigDev c r = peer c r := by decide +kernel
theorem partDev_eq : ∀ (c : Dev nD) (k : Fin 2) (r : Fin 7), partDev c k r = peer c r := by decide +kernel
theorem doneDev_eq : ∀ (c : Dev nD) (k : Fin 2) (r : Fin 7), doneDev c k r = peer c r := by decide +kernel

/-! ## Row chunks -/

/-- The first row of chunk `k` of device `e`'s rows. -/
def rowOf (e : Dev nD) (k : Fin 2) : ℕ :=
  64 * (4 * ((e.val % 2 + e.val / 2 % 2) % 2) + 2 * (e.val / 2 % 2) + e.val / 4) + 32 * k.val

theorem rowOf_le : ∀ (e : Dev nD) (k : Fin 2), rowOf e k ≤ 480 := by decide +kernel
theorem rowOf_apart : ∀ x x' : Dev nD × Fin 2, x ≠ x' → rowOf x.1 x.2 + 32 ≤ rowOf x'.1 x'.2 ∨ rowOf x'.1 x'.2 + 32 ≤ rowOf x.1 x.2 := by decide +kernel
theorem rowOf_onto : ∀ i : Fin 16, ∃ x : Dev nD × Fin 2, rowOf x.1 x.2 = 32 * i.val := by decide +kernel

theorem off1_eq : ∀ (c : Dev nD) (r : Fin 7) (k : Fin 2), k0_off1 c (maskW r) (chunkW k) = ![rowOf (peer c r) k, 0] := by decide +kernel
theorem off2_eq : ∀ (c : Dev nD) (r : Fin 7) (k : Fin 2), k0_off2 c (maskW r) (chunkW k) = ![rowOf (peer c r) k, 0] := by decide +kernel
theorem off3_eq : ∀ (c : Dev nD) (r : Fin 7) (k : Fin 2), k0_off3 c (maskW r) (chunkW k) = ![rowOf (peer c r) k, 0] := by decide +kernel
theorem off4_eq : ∀ (c : Dev nD) (k : Fin 2), k0_off4 c (chunkW k) = ![rowOf c k, 0] := by decide +kernel
theorem off5_eq : ∀ (c : Dev nD) (k : Fin 2), k0_off5 c (chunkW k) = ![rowOf c k, 0] := by decide +kernel
theorem off6_eq : ∀ (c : Dev nD) (k : Fin 2), k0_off6 c (chunkW k) = ![rowOf c k, 0] := by decide +kernel

theorem inb_tile (e : Dev nD) (k : Fin 2) : ∀ a, (![rowOf e k, 0] : Fin 2 → ℕ) a + S32x512.size a ≤ S512x512.size a := by
  intro a; have := rowOf_le e k
  fin_cases a
  · show rowOf e k + 32 ≤ 512; omega
  · show 0 + 512 ≤ 512; omega
theorem inb_tileA (e : Dev nD) (k : Fin 2) : ∀ a, (![rowOf e k, 0] : Fin 2 → ℕ) a + S32x256.size a ≤ S512x256.size a := by
  intro a; have := rowOf_le e k
  fin_cases a
  · show rowOf e k + 32 ≤ 512; omega
  · show 0 + 256 ≤ 256; omega

/-- The rows of chunk `(e, k)`, of the result and of the left factor. -/
abbrev tile (e : Dev nD) (k : Fin 2) : Rect S512x512 := Rect.unit (s := S512x512) ![rowOf e k, 0] S32x512.size (inb_tile e k)
abbrev tileA (e : Dev nD) (k : Fin 2) : Rect S512x256 := Rect.unit (s := S512x256) ![rowOf e k, 0] S32x256.size (inb_tileA e k)
/-- The chunk of the result as a memref. -/
abbrev tileM (M : Memref sig .tc .vmem S512x512 .f32) (e : Dev nD) (k : Fin 2) : Memref sig .tc .vmem S32x512 .f32 :=
  M.slice (tile e k) (fun _ => rfl)

theorem unit_off_congr {s : Shape} {off off' size : Fin s.rank → ℕ} (h : off = off') (i : ∀ a, off a + size a ≤ s.size a)
    (i' : ∀ a, off' a + size a ≤ s.size a) : Rect.unit off size i = Rect.unit off' size i' := by subst h; rfl
theorem slice_off_congr (M : Memref sig .tc .vmem S512x512 .f32) {off off' : Fin 2 → ℕ} (h : off = off')
    (i : ∀ a, off a + S32x512.size a ≤ S512x512.size a) (i' : ∀ a, off' a + S32x512.size a ≤ S512x512.size a) :
    (M.slice (Rect.unit (s := S512x512) off S32x512.size i) (fun _ => rfl) : Memref sig .tc .vmem S32x512 .f32)
      = M.slice (Rect.unit (s := S512x512) off' S32x512.size i') (fun _ => rfl) := by subst h; rfl

theorem peerM_eq (M : Memref sig .tc .vmem S512x512 .f32) (c : Dev nD) (r : Fin 7) (k : Fin 2) : peerM M c r k = tileM M (peer c r) k :=
  slice_off_congr M (off3_eq c r k) _ _
theorem ownM_eq (M : Memref sig .tc .vmem S512x512 .f32) (c : Dev nD) (k : Fin 2) : ownM M c k = tileM M c k :=
  slice_off_congr M (off6_eq c k) _ _
/-- The chunk a load or a store of a peer's rows reaches, and of the own rows. -/
theorem peerRM_eq (M : Memref sig .tc .vmem S512x512 .f32) (c : Dev nD) (r : Fin 7) (k : Fin 2) :
    (M.slice (peerR c r k) (fun _ => rfl) : Memref sig .tc .vmem S32x512 .f32) = tileM M (peer c r) k := slice_off_congr M (off2_eq c r k) _ _
theorem ownRM_eq (M : Memref sig .tc .vmem S512x512 .f32) (c : Dev nD) (k : Fin 2) :
    (M.slice (ownR c k) (fun _ => rfl) : Memref sig .tc .vmem S32x512 .f32) = tileM M c k := slice_off_congr M (off5_eq c k) _ _

theorem tile_disjoint : ∀ x x' : Dev nD × Fin 2, x ≠ x' → Disjoint (tile x.1 x.2).set (tile x'.1 x'.2).set :=
  fun x x' h => Rect.unit_disjoint (0 : Fin 2) (rowOf_apart x x' h)

theorem tile_cover : (Finset.univ : Finset (Dev nD × Fin 2)).biUnion (fun x => (tile x.1 x.2).set) = Finset.univ := by
  refine Finset.eq_univ_iff_forall.mpr fun i => ?_
  have h0 : (i (0 : Fin 2)).val < 512 := (i (0 : Fin 2)).isLt
  have h1 : (i (1 : Fin 2)).val < 512 := (i (1 : Fin 2)).isLt
  obtain ⟨x, hx⟩ := rowOf_onto ⟨(i (0 : Fin 2)).val / 32, by omega⟩
  refine Finset.mem_biUnion.mpr ⟨x, Finset.mem_univ _, Rect.mem_set_unit.mpr fun a => ?_⟩
  have hx' : rowOf x.1 x.2 = 32 * ((i (0 : Fin 2)).val / 32) := hx
  match a with
  | ⟨0, _⟩ => exact ⟨show rowOf x.1 x.2 ≤ (i (0 : Fin 2)).val by omega, show (i (0 : Fin 2)).val < rowOf x.1 x.2 + 32 by omega⟩
  | ⟨1, _⟩ => exact ⟨Nat.zero_le _, show (i (1 : Fin 2)).val < 0 + 512 by omega⟩

theorem slot_disjoint : ∀ x x' : Fin 7 × Fin 2, x ≠ x' → Disjoint (slotR x.1 x.2).set (slotR x'.1 x'.2).set := by
  intro x x' h
  by_cases h0 : x.1 = x'.1
  · refine Rect.unit_disjoint (1 : Fin 3) ?_
    have h1 : x.2.val ≠ x'.2.val := fun e => h (Prod.ext h0 (Fin.ext e))
    show 32 * x.2.val + 32 ≤ 32 * x'.2.val ∨ 32 * x'.2.val + 32 ≤ 32 * x.2.val
    omega
  · refine Rect.unit_disjoint (0 : Fin 3) ?_
    have h1 : x.1.val ≠ x'.1.val := fun e => h0 (Fin.ext e)
    show x.1.val + 1 ≤ x'.1.val ∨ x'.1.val + 1 ≤ x.1.val
    omega

theorem slot_cover : (Finset.univ : Finset (Fin 7 × Fin 2)).biUnion (fun x => (slotR x.1 x.2).set) = Finset.univ := by
  refine Finset.eq_univ_iff_forall.mpr fun i => ?_
  have h0 : (i (0 : Fin 3)).val < 7 := (i (0 : Fin 3)).isLt
  have h1 : (i (1 : Fin 3)).val < 64 := (i (1 : Fin 3)).isLt
  have h2 : (i (2 : Fin 3)).val < 512 := (i (2 : Fin 3)).isLt
  refine Finset.mem_biUnion.mpr ⟨(⟨(i (0 : Fin 3)).val, h0⟩, ⟨(i (1 : Fin 3)).val / 32, by omega⟩), Finset.mem_univ _, Rect.mem_set_unit.mpr fun a => ?_⟩
  match a with
  | ⟨0, _⟩ => exact ⟨le_refl _, Nat.lt_succ_self _⟩
  | ⟨1, _⟩ => exact ⟨show 32 * ((i (1 : Fin 3)).val / 32) ≤ (i (1 : Fin 3)).val by omega, show (i (1 : Fin 3)).val < 32 * ((i (1 : Fin 3)).val / 32) + 32 by omega⟩
  | ⟨2, _⟩ => exact ⟨Nat.zero_le _, show (i (2 : Fin 3)).val < 0 + 512 by omega⟩

/-! ## Values -/

section Values

-- Each device's left factor block `a` and right factor block `b`, as its staging buffers hold them.
variable (a : Dev nD → Vec F S512x256 .f32) (b : Dev nD → Vec F S256x512 .f32)

/-- A chunk as the landing buffer's slot reads it, with its leading axis of one. -/
abbrev asSlot (v : FVec F S32x512 .f32) : Vec F S1x32x512 .f32 := fun y => v (Shape.reshapeEquiv squeezes_S1x32x512_S32x512.numel_eq.symm y)

/-- Device `c`'s partial product of chunk `(e, k)`. -/
def partV (c e : Dev nD) (k : Fin 2) : FVec F S32x512 .f32 :=
  prodV (fun i => a c ((tileA e k).emb i)) (fun i => b c (wholeB.emb i))

/-- Device `e`'s own partial product of its chunk with those of the peers `l` added in order. -/
def accV (e : Dev nD) (k : Fin 2) (l : List (Fin 7)) : FVec F S32x512 .f32 :=
  l.foldl (fun v r => plusV v (asSlot (partV a b (peer e r) e k))) (partV a b e e k)

/-- The finished chunk. -/
def finV (e : Dev nD) (k : Fin 2) : FVec F S32x512 .f32 := reluV (accV a b e k order)

/-- The whole result: every chunk finished. -/
def outV : FVec F S512x512 .f32 :=
  Rect.glue (fun x : Dev nD × Fin 2 => tile x.1 x.2) tile_cover (fun x => finV a b x.1 x.2)

theorem outV_emb (x : Dev nD × Fin 2) (j : (tile x.1 x.2).shape.Idx) : outV a b ((tile x.1 x.2).emb j) = finV a b x.1 x.2 j :=
  Rect.glue_emb (fun x : Dev nD × Fin 2 => tile x.1 x.2) tile_cover tile_disjoint (fun x => finV a b x.1 x.2) x j

end Values

end Cert.KernelIdeal.Work

end
-- ==== Proof.Schedule.lean ====
/-
# The semaphores' schedule

Each device has 57 cells. Its barrier cell is signalled once by each of its seven peers; peer `r`'s signal hands over
that peer's two landing slots for this device. For each peer `r` and chunk `k` there are four more, each raised once by a
copy: the send and the receive cell of the partial product's copy, the send and the receive cell of the finished rows' copy.

A partial product that lands on `c` from its peer brings the landing slot with the product in it and, besides, the peer's
own rows it was copied from: these are chunk `(c, k)` of the peer's result, which `c` will overwrite with finished rows.
Finished rows that land on `c` bring the chunk of the sender in `c`'s result; when they have left, the share they were
copied at comes back.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers and the cells -/

abbrev aM : Memref sig .tc .vmem S512x256 .f32 := Memref.whole cc0_stg0_0
abbrev bM : Memref sig .tc .vmem S256x512 .f32 := Memref.whole cc0_stg1_0
abbrev oM : Memref sig .tc .vmem S512x512 .f32 := Memref.whole cc0_stg2_0
abbrev sM : Memref sig .tc .vmem S7x64x512 .f32 := Memref.whole cc0_scratch0

/-- The four semaphore tables: partial products leaving and landing, finished rows leaving and landing. -/
abbrev tab : Fin 4 → DmaSems sig S7x2 := fun | 0 => cc0_scratch1 | 1 => cc0_scratch2 | 2 => cc0_scratch3 | 3 => cc0_scratch4
/-- A cell: the barrier, or an entry of a table. -/
abbrev Copy := Fin 4 × Fin 7 × Fin 2
abbrev Cl := Option Copy
abbrev osem (x : Copy) : SemLoc sig := .dma (semAt (tab x.1) x.2.1 x.2.2)
abbrev csem : Cl → SemLoc sig := fun | none => .reg barSem | some x => osem x
abbrev cell (c : Dev nD) (x : Cl) : GSem nD τ sig := ((c : Thread nD τ), csem x)
abbrev bar : Cl := none
abbrev at_ (j : Fin 4) (r : Fin 7) (k : Fin 2) : Cl := some (j, r, k)

/-- Which cell a semaphore is. -/
def dec : SemLoc sig → Option Cl
  | .reg _ => some none
  | .dma q => if 3 ≤ q.val ∧ q.val < 59 then some (some (Fin.ofNat 4 ((q.val - 3) / 14), Fin.ofNat 7 ((q.val - 3) % 14 / 2), Fin.ofNat 2 ((q.val - 3) % 2))) else none

theorem dec_csem : ∀ x : Cl, dec (csem x) = some x := by decide +kernel
theorem csem_inj : Function.Injective csem := fun x y h => Option.some.inj (by rw [← dec_csem x, ← dec_csem y, h])
theorem cell_inj : Function.Injective fun x : Dev nD × Cl => cell x.1 x.2 := fun x y h => by
  have h1 : x.1 = y.1 := congrArg (fun g : GSem nD τ sig => g.1.1) h
  have h2 : csem x.2 = csem y.2 := congrArg (fun g : GSem nD τ sig => g.2) h
  exact Prod.ext h1 (csem_inj h2)

/-- What a copy of a chunk credits. -/
abbrev N : ℕ := (tileM oM 0 0).view.dmaCredit
theorem N_pos : 0 < N := View.dmaCredit_pos _ (by decide)
theorem slot_amount (r : Fin 7) (k : Fin 2) (q : DmaSem sig) : (slotM sM r k).view.amount (.dma q) = N := rfl
theorem tile_amount (e : Dev nD) (k : Fin 2) (q : DmaSem sig) : (tileM oM e k).view.amount (.dma q) = N := rfl

/-! ## Shares of the finished rows

The seven copies of a finished chunk read it at once, at seven disjoint shares, in the kernel's order. -/

/-- What is left after `n` copies have taken theirs. -/
def restShare : ℕ → PosShare TreeShare
  | 0 => fullShare
  | n + 1 => (restShare n).right
/-- The place of a peer in the kernel's order. -/
def place : Fin 7 → ℕ := ![4, 1, 5, 6, 2, 0, 3]
/-- The share a peer's copy takes. -/
def share (r : Fin 7) : PosShare TreeShare := (restShare (place r)).left

/-! ## The schedule -/

section Sched

variable (a : Dev nD → Vec F S512x256 .f32) (b : Dev nD → Vec F S256x512 .f32)

/-- Some contents. -/
abbrev someChunk (c : Dev nD) (M : Memref sig .tc .vmem S32x512 .f32) : sProp 𝕄 := iprop(∃ v : FVec F S32x512 .f32, owns (c : Thread nD τ) M fullShare v)

/-- What peer `r`'s signal hands device `c`: the peer's landing slots at `r`. -/
def barPay (c : Dev nD) (r : Fin 7) : sProp 𝕄 :=
  iprop(someChunk (peer c r) (slotM sM r 0) ∗ someChunk (peer c r) (slotM sM r 1))

/-- What the raise of a table's entry hands device `c`. -/
def copyPay (c : Dev nD) (j : Fin 4) (r : Fin 7) (k : Fin 2) : sProp 𝕄 :=
  match j with
  | 0 => iprop(emp)
  | 1 => iprop(owns (c : Thread nD τ) (slotM sM r k) fullShare (partV a b (peer c r) c k)
      ∗ owns (peer c r : Thread nD τ) (tileM oM c k) fullShare (partV a b (peer c r) c k))
  | 2 => owns (c : Thread nD τ) (tileM oM c k) (share r) (finV a b c k)
  | 3 => owns (c : Thread nD τ) (tileM oM (peer c r) k) fullShare (finV a b (peer c r) k)

instance barPay_storable (c : Dev nD) (r : Fin 7) : BI.Storable (upEmb : UEmb _ 𝕄) (barPay (F := F) c r) := by
  unfold barPay; infer_instance
instance copyPay_storable (c : Dev nD) (j : Fin 4) (r : Fin 7) (k : Fin 2) : BI.Storable (upEmb : UEmb _ 𝕄) (copyPay a b c j r k) := by
  unfold copyPay; fin_cases j <;> infer_instance

def dutiesOf : Option Cl → Finset (Fin 7)
  | some none => Finset.univ
  | some (some _) => {0}
  | none => ∅
def amountOf : Option Cl → ℕ
  | some (some _) => N
  | _ => 1
def payOf (c : Dev nD) (d : Fin 7) : Option Cl → sProp 𝕄
  | some none => barPay c d
  | some (some (j, r, k)) => copyPay a b c j r k
  | none => iprop(emp)

theorem amountOf_pos : ∀ o, 0 < amountOf o
  | some (some _) => N_pos
  | some none => Nat.one_pos
  | none => Nat.one_pos

instance payOf_storable (c : Dev nD) (d : Fin 7) (o : Option Cl) : BI.Storable (upEmb : UEmb _ 𝕄) (payOf a b c d o) := by
  rcases o with _ | _ | ⟨j, r, k⟩ <;> unfold payOf <;> infer_instance

/-- One round on every cell. -/
def rd : Rounds.Schedule (GSem nD τ sig) (Fin 7) 𝕄 where
  duties g n := if n = 0 ∧ g.1.2 = .tc then dutiesOf (dec g.2) else ∅
  unitless _ := False
  amount g _ _ := amountOf (dec g.2)
  payload g _ d := payOf a b g.1.1 d (dec g.2)
  amount_pos g _ _ _ := amountOf_pos _

instance rd_payload_storable (g : GSem nD τ sig) (n : ℕ) (d : Fin 7) : BI.Storable (upEmb : UEmb _ 𝕄) ((rd a b).payload g n d) :=
  payOf_storable a b g.1.1 d (dec g.2)

variable (c : Dev nD)

theorem duties_cell (x : Cl) : (rd a b).duties (cell c x) 0 = dutiesOf (some x) := by
  show (if 0 = 0 ∧ (cell c x).1.2 = .tc then dutiesOf (dec (csem x)) else ∅) = _
  rw [dec_csem]; exact if_pos ⟨rfl, rfl⟩
theorem duties_later (g : GSem nD τ sig) : ∀ n, 1 ≤ n → (rd a b).duties g n = ∅ := fun n hn => if_neg fun h => by omega
theorem amount_cell (x : Cl) (d : Fin 7) : (rd a b).amount (cell c x) 0 d = amountOf (some x) := by
  show amountOf (dec (csem x)) = _; rw [dec_csem]
theorem payload_cell (x : Cl) (d : Fin 7) : (rd a b).payload (cell c x) 0 d = payOf a b c d (some x) := by
  show payOf a b c d (dec (csem x)) = _; rw [dec_csem]

theorem expect_bar : (rd a b).expect (cell c bar) 0 = 7 := by
  unfold Schedule.expect Schedule.amountOf
  rw [Finset.sum_congr rfl fun d _ => amount_cell a b c bar d, duties_cell]
  show ∑ _x : Fin 7, 1 = 7
  rw [Finset.sum_const, Finset.card_univ, Fintype.card_fin, smul_eq_mul]
theorem expect_copy (x : Copy) : (rd a b).expect (cell c (some x)) 0 = N := by
  unfold Schedule.expect Schedule.amountOf
  rw [Finset.sum_congr rfl fun d _ => amount_cell a b c (some x) d, duties_cell]
  exact Finset.sum_singleton (fun _ : Fin 7 => N) 0

theorem rest_bar : bigSep ((rd a b).duties (cell c bar) 0 \ ∅) (fun d => (rd a b).payload (cell c bar) 0 d)
    = bigSep Finset.univ fun r : Fin 7 => (barPay c r : sProp 𝕄) := by
  rw [Finset.sdiff_empty, duties_cell]
  exact bigSep_congr fun d _ => payload_cell a b c bar d
theorem rest_copy (j : Fin 4) (r : Fin 7) (k : Fin 2) :
    bigSep ((rd a b).duties (cell c (at_ j r k)) 0 \ ∅) (fun d => (rd a b).payload (cell c (at_ j r k)) 0 d) = copyPay a b c j r k := by
  rw [Finset.sdiff_empty, duties_cell]
  show bigSep {0} _ = _
  rw [bigSep_singleton, payload_cell]; rfl

end Sched

/-! ## What a device owes, and the levels -/

def oweSig (c : Dev nD) (l : List (Fin 7)) : CellTallies nD τ sig Unit := (l.map fun r => tallyAt (cell (peer c r) bar) () 1).sum
/-- The copies onto the peers' cells of a table, at chunk `k`. -/
def oweCopy (c : Dev nD) (j : Fin 4) (k : Fin 2) (l : List (Fin 7)) : CellTallies nD τ sig Unit :=
  (l.map fun r => tallyAt (cell (peer c r) (at_ j r k)) () N).sum
def oweDone (c : Dev nD) : CellTallies nD τ sig Unit := oweCopy c 3 0 order + (oweCopy c 3 1 order + 0)
def owePart (c : Dev nD) : CellTallies nD τ sig Unit := oweCopy c 1 0 order + (oweCopy c 1 1 order + oweDone c)
def O₀ (c : Dev nD) : CellTallies nD τ sig Unit := oweSig c order + owePart c

def L (g : GSem nD τ sig) : Finset Unit := if g.1.2 = .tc then {()} else ∅
def lvOf : Option Cl → ℕ
  | some none => 1
  | some (some (j, _, _)) => if j = 1 then 2 else if j = 3 then 3 else 0
  | none => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cl) : lv (cell c x) () = lvOf (some x) := by show lvOf (dec (csem x)) = _; rw [dec_csem]

/-- Everything owed is owed to cells of level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (x : Cl) (N : ℕ) (h : n < lvOf (some x)) : Above n (tallyAt (cell c x) () N) := fun g u hg => by
  rw [tallyAt_apply] at hg
  by_cases h' : g = cell c x ∧ u = ()
  · rw [h'.1]; exact ⟨rfl, by rw [h'.2, lv_cell]; exact h⟩
  · rw [if_neg h'] at hg; exact absurd hg (Nat.lt_irrefl 0)
theorem Above.list {n : ℕ} (f : Fin 7 → CellTallies nD τ sig Unit) (h : ∀ r, Above n (f r)) : ∀ l : List (Fin 7), Above n (l.map f).sum
  | [] => Above.zero n
  | r :: l => by rw [List.map_cons, List.sum_cons]; exact (h r).add (Above.list f h l)

theorem above_sig (c : Dev nD) (l) : Above 0 (oweSig c l) := Above.list _ (fun r => Above.tally _ _ _ (by decide)) l
theorem above_part (c : Dev nD) (k : Fin 2) (l) : Above 1 (oweCopy c 1 k l) := Above.list _ (fun r => Above.tally _ _ _ (show 1 < 2 by decide)) l
theorem above_done (c : Dev nD) (k : Fin 2) (l) : Above 2 (oweCopy c 3 k l) := Above.list _ (fun r => Above.tally _ _ _ (show 2 < 3 by decide)) l
theorem Above.mono {n n' : ℕ} {O : CellTallies nD τ sig Unit} (h : Above n O) (hn : n' ≤ n) : Above n' O := fun g u hg => ⟨(h g u hg).1, lt_of_le_of_lt hn (h g u hg).2⟩
theorem above_oweDone (c : Dev nD) : Above 2 (oweDone c) := (above_done c 0 _).add ((above_done c 1 _).add (Above.zero 2))
theorem above_owePart (c : Dev nD) : Above 1 (owePart c) :=
  (above_part c 0 _).add ((above_part c 1 _).add ((above_oweDone c).mono (by decide)))
theorem above_O₀ (c : Dev nD) : Above 0 (O₀ c) := (above_sig c _).add ((above_owePart c).mono (by decide))

/-- A device may wait on a semaphore of a level no higher than everything it owes. -/
theorem mayWait (c : Dev nD) (sm : SemLoc sig) (n : ℕ) (hs : lvOf (dec sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

end Cert.KernelIdeal.Work

end
-- ==== Proof.Steps.lean ====
/-
# One rule for each kind of step

Each listed step, run from what it needs to what it leaves. What is common to all steps is `records`: the invariants of all
cells, the mark that each has reached its round, and the levels.
-/
module

public import proofs.«01_k».proof.Proof.Schedule
public import Idealize.ShloMosaic.Lib.Pipeline.BigSepL

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Running a program on device `c`'s core. -/
abbrev run (c : Dev nD) (K : Steps F) (Q : PUnit → sProp 𝕄) : sProp 𝕄 :=
  wp frame (wpE (defs₀ (F := F)) 𝒱₀ (c : Thread nD τ) none) Set.univ K Q

/-- What device `c` owes, whatever it has waited for. -/
def owing (c : Dev nD) (O : CellTallies nD τ sig Unit) : sProp 𝕄 := iprop(∃ W, owes (c : Thread nD τ) O W)

/-! ## Lists of steps -/

/-- A list of steps by a rule for one: `I` is carried through, its state moved by `upd`; each step takes its `Res` and leaves
    its `Out`. -/
theorem run_each {α σ : Type} (c : Dev nD) (P : sProp 𝕄) [BI.Persistent P] (I : σ → List α → sProp 𝕄) (Res Out : α → sProp 𝕄) (upd : σ → α → σ)
    (f : α → Steps F → Steps F) (Q : PUnit → sProp 𝕄)
    (hstep : ∀ (s : σ) (x : α) (l : List α) (K : Steps F),
      iprop(P ∗ I s (x :: l) ∗ Res x) ⊢ iprop(((I (upd s x) l ∗ Out x) -∗ run c K Q) -∗ run c (f x K) Q)) :
    ∀ (l : List α) (s : σ) (K : Steps F),
      iprop(P ∗ I s l ∗ bigSepL l Res) ⊢ iprop(((I (l.foldl upd s) [] ∗ bigSepL l Out) -∗ run c K Q) -∗ run c (each f l K) Q)
  | [], s, K => by
    rw [List.foldl_nil]
    iintro ⟨-, HI, -⟩ HK
    iapply HK
    isplitl [HI]; · iexact HI
    rw [bigSepL_nil]; iempintro
  | x :: l, s, K => by
    rw [bigSepL_cons', bigSepL_cons', List.foldl_cons]
    iintro ⟨#HP, HI, Hx, Hl⟩ HK
    iapply (hstep s x l (each f l K)) $$ [HI Hx]
    · isplitr; · iexact HP
      isplitl [HI] <;> iassumption
    iintro ⟨HI, Hx⟩
    iapply (run_each c P I Res Out upd f Q hstep l (upd s x) K) $$ [HI Hl]
    · isplitr; · iexact HP
      isplitl [HI] <;> iassumption
    iintro ⟨HI, Hl⟩
    iapply HK
    isplitl [HI]; · iexact HI
    isplitl [Hx] <;> iassumption

/-! ## Loads and stores of owned memrefs -/

section Mem

variable (c : Dev nD) {sh : Shape} {e : EltTy} {M : Memref sig .tc .vmem sh e} {r : Rect sh}

/-- A load of the owned slice. -/
theorem load_slice {hr : ∀ a, r.stride a = 1} {hl : M.view.LoadsAt r} {k : (r.shape.Idx → Elt F e) → Steps F} {Q : PUnit → sProp 𝕄} {q : PosShare TreeShare} (X : r.shape.Idx → Elt F e) :
    (owns (c : Thread nD τ) (M.slice r hr) q X : sProp 𝕄)
      ⊢ iprop((owns (c : Thread nD τ) (M.slice r hr) q X -∗ run c (k X) Q) -∗ run c (.op (.load M r.toLoadRect hl) k) Q) := by
  unfold owns
  iintro ⟨%f, %hf, H⟩ HK
  subst hf
  iapply (wp_load_rect 𝒱₀ (c : Thread nD τ) none Set.univ (m := M) (r := r) (hl := hl) (S := (M.slice r hr).view.set) (q := q) (f := f) (Finset.Subset.refl _)) $$ H
  iintro H
  iapply HK
  iexists f
  isplitr; · ipureintro; rfl
  iexact H

/-- A load of a part of the owned memref. -/
theorem load_part {hl : M.view.LoadsAt r} {k : (r.shape.Idx → Elt F e) → Steps F} {Q : PUnit → sProp 𝕄} {q : PosShare TreeShare} (X : sh.Idx → Elt F e) :
    (owns (c : Thread nD τ) M q X : sProp 𝕄)
      ⊢ iprop((owns (c : Thread nD τ) M q X -∗ run c (k fun y => X (r.emb y)) Q) -∗ run c (.op (.load M r.toLoadRect hl) k) Q) := by
  unfold owns
  iintro ⟨%f, %hf, H⟩ HK
  subst hf
  iapply (wp_load_rect 𝒱₀ (c : Thread nD τ) none Set.univ (m := M) (r := r) (hl := hl) (S := M.view.set) (q := q) (f := f) (View.set_slice_subset _ _)) $$ H
  iintro H
  iapply HK
  iexists f
  isplitr; · ipureintro; rfl
  iexact H

/-- A store to the owned slice. -/
theorem store_slice {hr : ∀ a, r.stride a = 1} (w : r.shape.Idx → Elt F e) {hx : (M.access r).Stores Finset.univ} {hm : (Finset.univ : Finset r.shape.Idx) = Finset.univ ∨ ∀ a, r.stride a = 1}
    {k : PUnit → Steps F} {Q : PUnit → sProp 𝕄} {X : r.shape.Idx → Elt F e} :
    (owns (c : Thread nD τ) (M.slice r hr) fullShare X : sProp 𝕄)
      ⊢ iprop((owns (c : Thread nD τ) (M.slice r hr) fullShare w -∗ run c (k ⟨⟩) Q) -∗ run c (.op (.store M r w Finset.univ hx hm) k) Q) := by
  unfold owns
  iintro ⟨%f, -, H⟩ HK
  iapply (wp_store 𝒱₀ (c : Thread nD τ) none Set.univ (m := M) (r := r) (w := w) (Mk := Finset.univ) (hx := hx) (hm := hm) (S := (M.slice r hr).view.set) (f := f) (Finset.Subset.refl _)) $$ H
  iintro H
  iapply HK
  iexists _
  isplitr
  rotate_left
  · iexact H
  · ipureintro; exact View.read_write_univ _ _

end Mem

/-! ## What every step may use -/

section Rules

variable (a : Dev nD → Vec F S512x256 .f32) (b : Dev nD → Vec F S256x512 .f32) (κ : Dev nD × Cl → ℕ)

/-- The invariants of all cells, the mark that each is at its round, and the levels. -/
def records : sProp 𝕄 :=
  iprop((bigSep Finset.univ fun x : Dev nD × Cl => cellInv ER (rd a b) (κ x) (cell x.1 x.2))
    ∗ (bigSep Finset.univ fun x : Dev nD × Cl => reached ER (cell x.1 x.2) 0) ∗ levAts L lv)

instance records_persistent : BI.Persistent (records a b κ) := by unfold records; infer_instance

theorem records_inv (x : Dev nD × Cl) : records a b κ ⊢ cellInv ER (rd a b) (κ x) (cell x.1 x.2) := by
  unfold records; exact sep_elim_left.trans (bigSep_elim (Finset.mem_univ x))
theorem records_reached (x : Dev nD × Cl) : records a b κ ⊢ reached ER (cell x.1 x.2) 0 := by
  unfold records; exact sep_elim_right.trans (sep_elim_left.trans (bigSep_elim (Finset.mem_univ x)))
theorem records_lev : records a b κ ⊢ levAts L lv := by unfold records; iintro ⟨-, -, H⟩; iexact H

variable (c : Dev nD)

theorem cons_owe (t s O : CellTallies nD τ sig Unit) : t + s + O = s + O + t := by rw [add_comm t s, add_right_comm]

/-! ## Signal and barrier -/

theorem pay_peer_bar (r : Fin 7) : (rd a b).payload (cell (peer c r) bar) 0 r = iprop(someChunk c (slotM sM r 0) ∗ someChunk c (slotM sM r 1)) := by
  rw [payload_cell a b (peer c r) bar r]
  show barPay (peer c r) r = _
  unfold barPay; rw [peer_peer]

theorem run_sig (O : CellTallies nD τ sig Unit) (r : Fin 7) (l : List (Fin 7)) (K : Steps F) (Q : PUnit → sProp 𝕄) :
    iprop(records a b κ ∗ owing c (oweSig c (r :: l) + O)
        ∗ (dutyTok ER (cell (peer c r) bar) 0 r ∗ someChunk c (slotM sM r 0) ∗ someChunk c (slotM sM r 1)))
      ⊢ iprop(((owing c (oweSig c l + O) ∗ emp) -∗ run c K Q) -∗ run c (stepSig c r K) Q) := by
  unfold stepSig owing
  rw [sigDev_eq]
  iintro ⟨#HR, ⟨%W, HO⟩, Ht, H0, H1⟩ HK
  iapply (Rounds.wp_signal 𝒱₀ ER (rd a b) (c : Thread nD τ) none (dst := (peer c r : Thread nD τ)) (κ := κ (peer c r, bar)) (sem := barSem) (k' := 1)
      (O₀ := oweSig c (r :: l) + O) (d := r) (r := 0) (by rw [duties_cell a b (peer c r) bar]; exact Finset.mem_univ _) (amount_cell a b (peer c r) bar r) () (oweSig c l + O)
      (by unfold oweSig; rw [List.map_cons, List.sum_cons]; exact cons_owe _ _ _)) $$ [HO Ht H0 H1]
  · isplitr; · iapply (records_inv a b κ (peer c r, bar)); iexact HR
    isplitl [HO]; · iexact HO
    isplitl [Ht]; · iexact Ht
    isplitl [H0 H1]
    · rw [pay_peer_bar a b c r]
      isplitl [H0] <;> iassumption
    · iapply (records_reached a b κ (peer c r, bar)); iexact HR
  iintro HO
  iapply HK
  isplitl [HO]; · iexists W; iexact HO
  iempintro

theorem run_bar {O : CellTallies nD τ sig Unit} (hO : Above 1 O) (K : Steps F) (Q : PUnit → sProp 𝕄) :
    iprop(records a b κ ∗ owing c O ∗ cred (tallyAt (cell c bar) () 7) ∗ atPos ER (cell c bar) 0 ∅ 0)
      ⊢ iprop(((owing c O ∗ atPos ER (cell c bar) 1 ∅ 0 ∗ bigSep Finset.univ fun r : Fin 7 => (barPay c r : sProp 𝕄)) -∗ run c K Q)
        -∗ run c (stepBar K) Q) := by
  unfold stepBar owing
  iintro ⟨#HR, ⟨%W, HO⟩, Hc, Hat⟩ HK
  iapply (Rounds.wp_wait_rest_token 𝒱₀ ER (rd a b) (c : Thread nD τ) none (κ := κ (c, bar))
      (wpE_semWait_eq 𝒱₀ (c : Thread nD τ) none Set.univ) (Set.mem_univ _) () (O := O) (W := W) (R := 0) (m := 0) (T := ∅)
      (by rw [expect_bar a b c]; decide)) $$ [HO Hc Hat]
  · isplitr; · iapply (records_inv a b κ (c, bar)); iexact HR
    isplitl [Hc]; · iexact Hc
    isplitl [HO]; · iexact HO
    isplitr; · iapply (mayWait c (.reg barSem) 1 (by decide) hO); iapply (records_lev a b κ); iexact HR
    iexact Hat
  iintro ⟨HO, Hat, -, Hp⟩
  iapply HK
  isplitl [HO]; · iexists _; iexact HO
  isplitl [Hat]; · iexact Hat
  rw [← rest_bar a b c]; iexact Hp

/-- A wait on a table's entry: its payload. -/
theorem run_wait (j : Fin 4) (r : Fin 7) (k : Fin 2) {sp sp' : Space} {s s' : Shape} {e e' : EltTy} {src : Memref sig .tc sp s e} {dst : Memref sig .tc sp' s' e'}
    {hsrc : src.view.WordExact} {hdst : dst.view.WordExact} (hN : dst.view.dmaCredit = N) (n : ℕ) (hn : lvOf (some (at_ j r k)) ≤ n) {O : CellTallies nD τ sig Unit} (hO : Above n O)
    (K : PUnit → Steps F) (Q : PUnit → sProp 𝕄) :
    iprop(records a b κ ∗ owing c O ∗ cred (tallyAt (cell c (at_ j r k)) () N) ∗ atPos ER (cell c (at_ j r k)) 0 ∅ 0)
      ⊢ iprop(((owing c O ∗ atPos ER (cell c (at_ j r k)) 1 ∅ 0 ∗ copyPay a b c j r k) -∗ run c (K ⟨⟩) Q)
        -∗ run c (.op (.waitDma2 (semAt (tab j) r k) src dst hsrc hdst) K) Q) := by
  unfold owing
  iintro ⟨#HR, ⟨%W, HO⟩, Hc, Hat⟩ HK
  iapply (Rounds.wp_wait_rest_token 𝒱₀ ER (rd a b) (c : Thread nD τ) none (κ := κ (c, at_ j r k))
      (wpE_waitDma2_eq 𝒱₀ (c : Thread nD τ) none Set.univ) (Set.mem_univ _) () (O := O) (W := W) (R := 0) (m := 0) (T := ∅)
      (by rw [Nat.zero_add]; exact hN.trans (expect_copy a b c (j, r, k)).symm)) $$ [HO Hc Hat]
  · isplitr; · iapply (records_inv a b κ (c, at_ j r k)); iexact HR
    isplitl [Hc]; · rw [hN]; iexact Hc
    isplitl [HO]; · iexact HO
    isplitr; · iapply (mayWait c (csem (at_ j r k)) n (by rw [dec_csem]; exact hn) hO); iapply (records_lev a b κ); iexact HR
    iexact Hat
  iintro ⟨HO, Hat, -, Hp⟩
  iapply HK
  isplitl [HO]; · iexists _; iexact HO
  isplitl [Hat]; · iexact Hat
  rw [← rest_copy a b c]; iexact Hp

/-! ## The two copies -/

theorem pay_part_send (r : Fin 7) (k : Fin 2) : (rd a b).payload (cell c (at_ 0 r k)) 0 0 = iprop(emp) := payload_cell a b c (at_ 0 r k) 0
theorem pay_part_recv (r : Fin 7) (k : Fin 2) : (rd a b).payload (cell (peer c r) (at_ 1 r k)) 0 0
    = iprop(owns (peer c r : Thread nD τ) (slotM sM r k) fullShare (partV a b c (peer c r) k) ∗ owns (c : Thread nD τ) (tileM oM (peer c r) k) fullShare (partV a b c (peer c r) k)) := by
  rw [payload_cell a b (peer c r) (at_ 1 r k) 0]
  show (iprop(owns (peer c r : Thread nD τ) (slotM sM r k) fullShare (partV a b (peer (peer c r) r) (peer c r) k)
    ∗ owns (peer (peer c r) r : Thread nD τ) (tileM oM (peer c r) k) fullShare (partV a b (peer (peer c r) r) (peer c r) k)) : sProp 𝕄) = _
  rw [peer_peer]
theorem pay_done_send (r : Fin 7) (k : Fin 2) : (rd a b).payload (cell c (at_ 2 r k)) 0 0 = owns (c : Thread nD τ) (tileM oM c k) (share r) (finV a b c k) :=
  payload_cell a b c (at_ 2 r k) 0
theorem pay_done_recv (r : Fin 7) (k : Fin 2) : (rd a b).payload (cell (peer c r) (at_ 3 r k)) 0 0
    = owns (peer c r : Thread nD τ) (tileM oM c k) fullShare (finV a b c k) := by
  rw [payload_cell a b (peer c r) (at_ 3 r k) 0]
  show (owns (peer c r : Thread nD τ) (tileM oM (peer (peer c r) r) k) fullShare (finV a b (peer (peer c r) r) k) : sProp 𝕄) = _
  rw [peer_peer]

theorem mem_duties (e : Dev nD) (x : Copy) : (0 : Fin 7) ∈ (rd a b).duties (cell e (some x)) 0 := by
  rw [duties_cell a b e (some x)]; exact Finset.mem_singleton_self _

/-- Where a copy lands, owned at what it carried. -/
theorem landed {e : Thread nD τ} {s : Shape} {el : EltTy} {dst : Memref sig e.2.kind .vmem s el} (fd : Buf (Elt F) (dst.view.loc e)) (X : s.Idx → Elt F el) :
    (dst.view.loc e ↦[dst.view.set]{fullShare} (dst.view.write (Elt F) fd X Finset.univ) : sProp 𝕄) ⊢ owns e dst fullShare X := by
  have h := owns_intro (Ix := Unit) (Name := ℕ) (U := UU) (Lvl := ℕ) e dst fullShare (dst.view.write (Elt F) fd X Finset.univ)
  rwa [View.read_write_univ] at h

/-- The copy of a partial product to peer `r`. -/
theorem run_copy_part (n : Dev nD) (r : Fin 7) (k : Fin 2) (hn : n = peer c r) {src : Memref sig .tc .vmem S32x512 .f32} (hsrc : src = tileM oM (peer c r) k)
    {hsc : (slotM sM r k : Memref sig (Dev.tc n : Thread nD τ).2.kind .vmem S32x512 .f32).view.ref.isScScratch = false}
    {h₁ : src.view.WordExact} {h₂ : (slotM sM r k).view.WordExact}
    {h₃ : DmaTarget.Typed .vmem (.dma (semAt cc0_scratch2 r k)) (.remote (Dev.tc n : Thread nD τ) (slotM sM r k) (.dma (semAt cc0_scratch1 r k)) hsc)}
    (O : CellTallies nD τ sig Unit) (l : List (Fin 7)) (K : PUnit → Steps F) (Q : PUnit → sProp 𝕄) :
    iprop(records a b κ ∗ owing c (oweCopy c 1 k (r :: l) + O)
        ∗ owns (c : Thread nD τ) (tileM oM (peer c r) k) fullShare (partV a b c (peer c r) k) ∗ someChunk (peer c r) (slotM sM r k)
        ∗ dutyTok ER (cell c (at_ 0 r k)) 0 0 ∗ dutyTok ER (cell (peer c r) (at_ 1 r k)) 0 0)
      ⊢ iprop(((owing c (oweCopy c 1 k l + O) ∗ cred (tallyAt (cell c (at_ 0 r k)) () N)) -∗ run c (K ⟨⟩) Q)
        -∗ run c (.op (.enqueueDma src (.remote (Dev.tc n : Thread nD τ) (slotM sM r k) (.dma (semAt cc0_scratch1 r k)) hsc) (.dma (semAt cc0_scratch2 r k)) h₁ h₂ h₃) K) Q) := by
  subst hn hsrc
  have hpay₂ (fd : Buf (Elt F) ((slotM sM r k).view.loc (peer c r : Thread nD τ))) (fs : Buf (Elt F) ((tileM oM (peer c r) k).view.loc (c : Thread nD τ)))
      (hfs : (tileM oM (peer c r) k).view.read (Elt F) fs = partV a b c (peer c r) k) :
      iprop(((slotM sM r k).view.loc (peer c r : Thread nD τ) ↦[(slotM sM r k).view.set]{fullShare} ((slotM sM r k).view.write (Elt F) fd ((tileM oM (peer c r) k).view.read (Elt F) fs) Finset.univ))
          ∗ ((tileM oM (peer c r) k).view.loc (c : Thread nD τ) ↦[(tileM oM (peer c r) k).view.set]{fullShare} fs))
        ⊢ (rd a b).payload (cell (peer c r) (at_ 1 r k)) 0 0 := by
    rw [pay_part_recv, hfs]
    refine BI.sep_mono (landed _ _) ?_
    rw [← hfs]; exact owns_intro _ _ _ _
  unfold owing
  iintro ⟨#HR, ⟨%W, HO⟩, Hsrc, ⟨%v, Hdst⟩, Ht, Ht'⟩ HK
  unfold owns
  icases Hsrc with ⟨%fs, %hfs, Hsrc⟩
  icases Hdst with ⟨%fd, -, Hdst⟩
  iapply (Rounds.wp_send_landing_pointsTo (c' := (peer c r : Thread nD τ)) (src := tileM oM (peer c r) k) (dst := slotM sM r k)
      (sem := .dma (semAt cc0_scratch2 r k)) (sS := .dma (semAt cc0_scratch1 r k)) (hsc := hsc) (hsrc := h₁) (hdst := h₂) (hsem := h₃) (k := K) (Q := Q) 𝒱₀ ER (rd a b) (c : Thread nD τ) none (κ₁ := κ (c, at_ 0 r k)) (κ₂ := κ (peer c r, at_ 1 r k))
      (r₁ := 0) (r₂ := 0) (d₁ := 0) (d₂ := 0) (fd := fd) (fs := fs) (mem_duties a b c (0, r, k)) (mem_duties a b (peer c r) (1, r, k))
      () () N (slot_amount r k _) (amount_cell a b c (at_ 0 r k) 0) (amount_cell a b (peer c r) (at_ 1 r k) 0)
      (O₀ := oweCopy c 1 k (r :: l) + O) (oweCopy c 1 k l + O)
      (by unfold oweCopy; rw [List.map_cons, List.sum_cons]; exact cons_owe _ _ _) (W := W)
      (by rw [pay_part_send]) (hpay₂ fd fs hfs)) $$ [HO Hsrc Hdst Ht Ht']
  · isplitr; · iapply (records_inv a b κ (c, at_ 0 r k)); iexact HR
    isplitr; · iapply (records_inv a b κ (peer c r, at_ 1 r k)); iexact HR
    isplitl [Hsrc]; · iexact Hsrc
    isplitl [Hdst]; · iexact Hdst
    isplitl [HO]; · iexact HO
    isplitl [Ht]; · iexact Ht
    isplitr; · iapply (records_reached a b κ (c, at_ 0 r k)); iexact HR
    isplitl [Ht']; · iexact Ht'
    iapply (records_reached a b κ (peer c r, at_ 1 r k)); iexact HR
  iintro ⟨Hc, HO⟩
  iapply HK
  isplitl [HO]; · iexists W; iexact HO
  iexact Hc

/-- The copy of finished rows to peer `r`. -/
theorem run_copy_done (n : Dev nD) (r : Fin 7) (k : Fin 2) (hn : n = peer c r) {src : Memref sig .tc .vmem S32x512 .f32} (hsrc : src = tileM oM c k)
    {hsc : (src : Memref sig (Dev.tc n : Thread nD τ).2.kind .vmem S32x512 .f32).view.ref.isScScratch = false}
    {h₁ : src.view.WordExact} {h₂ : src.view.WordExact}
    {h₃ : DmaTarget.Typed .vmem (.dma (semAt cc0_scratch4 r k)) (.remote (Dev.tc n : Thread nD τ) src (.dma (semAt cc0_scratch3 r k)) hsc)}
    (O : CellTallies nD τ sig Unit) (l : List (Fin 7)) (K : PUnit → Steps F) (Q : PUnit → sProp 𝕄) :
    iprop(records a b κ ∗ owing c (oweCopy c 3 k (r :: l) + O)
        ∗ owns (c : Thread nD τ) (tileM oM c k) (share r) (finV a b c k) ∗ someChunk (peer c r) (tileM oM c k)
        ∗ dutyTok ER (cell c (at_ 2 r k)) 0 0 ∗ dutyTok ER (cell (peer c r) (at_ 3 r k)) 0 0)
      ⊢ iprop(((owing c (oweCopy c 3 k l + O) ∗ cred (tallyAt (cell c (at_ 2 r k)) () N)) -∗ run c (K ⟨⟩) Q)
        -∗ run c (.op (.enqueueDma src (.remote (Dev.tc n : Thread nD τ) src (.dma (semAt cc0_scratch3 r k)) hsc) (.dma (semAt cc0_scratch4 r k)) h₁ h₂ h₃) K) Q) := by
  subst hn hsrc
  have hpay₁ (fs : Buf (Elt F) ((tileM oM c k).view.loc (c : Thread nD τ))) (hfs : (tileM oM c k).view.read (Elt F) fs = finV a b c k) :
      ((tileM oM c k).view.loc (c : Thread nD τ) ↦[(tileM oM c k).view.set]{share r} fs) ⊢ (rd a b).payload (cell c (at_ 2 r k)) 0 0 := by
    rw [pay_done_send, ← hfs]; exact owns_intro _ _ _ _
  have hpay₂ (fd : Buf (Elt F) ((tileM oM c k).view.loc (peer c r : Thread nD τ))) (fs : Buf (Elt F) ((tileM oM c k).view.loc (c : Thread nD τ)))
      (hfs : (tileM oM c k).view.read (Elt F) fs = finV a b c k) :
      ((tileM oM c k).view.loc (peer c r : Thread nD τ) ↦[(tileM oM c k).view.set]{fullShare} ((tileM oM c k).view.write (Elt F) fd ((tileM oM c k).view.read (Elt F) fs) Finset.univ))
        ⊢ (rd a b).payload (cell (peer c r) (at_ 3 r k)) 0 0 := by
    rw [pay_done_recv, hfs]
    exact landed _ _
  unfold owing
  iintro ⟨#HR, ⟨%W, HO⟩, Hsrc, ⟨%v, Hdst⟩, Ht, Ht'⟩ HK
  unfold owns
  icases Hsrc with ⟨%fs, %hfs, Hsrc⟩
  icases Hdst with ⟨%fd, -, Hdst⟩
  iapply (Rounds.wp_send_pointsTo (c' := (peer c r : Thread nD τ)) (src := tileM oM c k) (dst := tileM oM c k)
      (sem := .dma (semAt cc0_scratch4 r k)) (sS := .dma (semAt cc0_scratch3 r k)) (hsc := hsc) (hsrc := h₁) (hdst := h₂) (hsem := h₃) (k := K) (Q := Q) 𝒱₀ ER (rd a b) (c : Thread nD τ) none (κ₁ := κ (c, at_ 2 r k)) (κ₂ := κ (peer c r, at_ 3 r k))
      (r₁ := 0) (r₂ := 0) (d₁ := 0) (d₂ := 0) (fd := fd) (fs := fs) (mem_duties a b c (2, r, k)) (mem_duties a b (peer c r) (3, r, k))
      () () N (tile_amount c k _) (amount_cell a b c (at_ 2 r k) 0) (amount_cell a b (peer c r) (at_ 3 r k) 0)
      (O₀ := oweCopy c 3 k (r :: l) + O) (oweCopy c 3 k l + O)
      (by unfold oweCopy; rw [List.map_cons, List.sum_cons]; exact cons_owe _ _ _) (W := W)
      (hpay₁ fs hfs) (hpay₂ fd fs hfs)) $$ [HO Hsrc Hdst Ht Ht']
  · isplitr; · iapply (records_inv a b κ (c, at_ 2 r k)); iexact HR
    isplitr; · iapply (records_inv a b κ (peer c r, at_ 3 r k)); iexact HR
    isplitl [Hsrc]; · iexact Hsrc
    isplitl [Hdst]; · iexact Hdst
    isplitl [HO]; · iexact HO
    isplitl [Ht]; · iexact Ht
    isplitr; · iapply (records_reached a b κ (c, at_ 2 r k)); iexact HR
    isplitl [Ht']; · iexact Ht'
    iapply (records_reached a b κ (peer c r, at_ 3 r k)); iexact HR
  iintro ⟨Hc, HO⟩
  iapply HK
  isplitl [HO]; · iexists W; iexact HO
  iexact Hc

end Rules

end Cert.KernelIdeal.Work

end
-- ==== Proof.Phases.lean ====
/-
# The phases of the body

Each listed step from the rules for its effects, and each list of steps from the rule for one.
-/
module

public import proofs.«01_k».proof.Proof.Steps

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores of chunks and slots -/

section Mem

variable (c : Dev nD)

/-- A load of 32 rows of the result, when they are the chunk owned. -/
theorem load_rows {off : Fin 2 → ℕ} {i : ∀ a, off a + S32x512.size a ≤ S512x512.size a} {M : Memref sig .tc .vmem S32x512 .f32}
    (h : (oM.slice (Rect.unit (s := S512x512) off S32x512.size i) (fun _ => rfl) : Memref sig .tc .vmem S32x512 .f32) = M)
    {hl : oM.view.LoadsAt (Rect.unit (s := S512x512) off S32x512.size i).toLoadRect} {k : (S32x512.Idx → Elt F .f32) → Steps F} {Q : PUnit → sProp 𝕄} {q : PosShare TreeShare} (X : FVec F S32x512 .f32) :
    (owns (c : Thread nD τ) M q X : sProp 𝕄)
      ⊢ iprop((owns (c : Thread nD τ) M q X -∗ run c (k X) Q)
        -∗ run c (.op (.load oM (Rect.unit (s := S512x512) off S32x512.size i).toLoadRect hl) k) Q) := by
  subst h
  exact load_slice c (M := oM) (r := Rect.unit (s := S512x512) off S32x512.size i) (hr := fun _ => rfl) (hl := hl) (k := k) (Q := Q) (q := q) X

/-- A store to them. -/
theorem store_rows {off : Fin 2 → ℕ} {i : ∀ a, off a + S32x512.size a ≤ S512x512.size a} {M : Memref sig .tc .vmem S32x512 .f32}
    (h : (oM.slice (Rect.unit (s := S512x512) off S32x512.size i) (fun _ => rfl) : Memref sig .tc .vmem S32x512 .f32) = M) (w : FVec F S32x512 .f32) {w' : FVec F S32x512 .f32} (hw : w' = w)
    {hx : (oM.access (Rect.unit (s := S512x512) off S32x512.size i)).Stores Finset.univ}
    {hm : (Finset.univ : Finset (Rect.unit (s := S512x512) off S32x512.size i).shape.Idx) = Finset.univ ∨ ∀ a, (Rect.unit (s := S512x512) off S32x512.size i).stride a = 1}
    {k : PUnit → Steps F} {Q : PUnit → sProp 𝕄} (X : FVec F S32x512 .f32) :
    (owns (c : Thread nD τ) M fullShare X : sProp 𝕄)
      ⊢ iprop((owns (c : Thread nD τ) M fullShare w -∗ run c (k ⟨⟩) Q)
        -∗ run c (.op (.store oM (Rect.unit (s := S512x512) off S32x512.size i) w' Finset.univ hx hm) k) Q) := by
  subst h hw
  exact store_slice c (M := oM) (r := Rect.unit (s := S512x512) off S32x512.size i) (hr := fun _ => rfl) w' (hx := hx) (hm := hm) (k := k) (Q := Q)

theorem read_slot (r : Fin 7) (k : Fin 2) (f : sM.view.ty.Contents (Elt F)) :
    (asSlot ((slotM sM r k).view.read (Elt F) f) : S1x32x512.Idx → Elt F .f32) = (sM.access (slotR r k)).read (Elt F) f := by
  funext y
  show (sM.access (slotR r k)).read (Elt F) f (Shape.reshapeEquiv _ (Shape.reshapeEquiv _ y)) = _
  rw [Shape.reshapeEquiv_reshapeEquiv, Shape.reshapeEquiv_self]

/-- A load of an owned landing slot. -/
theorem load_slot (r : Fin 7) (k : Fin 2) {hl : sM.view.LoadsAt (slotR r k).toLoadRect} {K : (S1x32x512.Idx → Elt F .f32) → Steps F} {Q : PUnit → sProp 𝕄} {q : PosShare TreeShare}
    (X : FVec F S32x512 .f32) :
    (owns (c : Thread nD τ) (slotM sM r k) q X : sProp 𝕄)
      ⊢ iprop((owns (c : Thread nD τ) (slotM sM r k) q X -∗ run c (K (asSlot X)) Q) -∗ run c (.op (.load sM (slotR r k).toLoadRect hl) K) Q) := by
  unfold owns
  iintro ⟨%f, %hf, H⟩ HK
  subst hf
  rw [read_slot]
  iapply (wp_load_rect 𝒱₀ (c : Thread nD τ) none Set.univ (m := sM) (r := slotR r k) (hl := hl) (S := (slotM sM r k).view.set) (q := q) (f := f)
    (by rw [show (slotM sM r k).view.set = (sM.access (slotR r k)).set from View.set_reshape _ _])) $$ H
  iintro H
  iapply HK
  iexists f
  isplitr; · ipureintro; rfl
  iexact H

end Mem

section Rules

variable (a : Dev nD → Vec F S512x256 .f32) (b : Dev nD → Vec F S256x512 .f32) (κ : Dev nD × Cl → ℕ) (c : Dev nD)

theorem read_rows_congr {s : Shape} {α : Type} (X : s.Idx → α) {off off' size : Fin s.rank → ℕ} (h : off = off') (i : ∀ x, off x + size x ≤ s.size x)
    (i' : ∀ x, off' x + size x ≤ s.size x) :
    (fun y : (⟨s.rank, size⟩ : Shape).Idx => X ((Rect.unit off size i).emb y)) = fun y => X ((Rect.unit off' size i').emb y) := by subst h; rfl

theorem prod_peer (r : Fin 7) (k : Fin 2) :
    prodV (fun y => a c ((peerA c r k).emb y)) (fun y => b c (wholeB.emb y)) = partV a b c (peer c r) k :=
  congrArg (fun x => prodV x fun y => b c (wholeB.emb y)) (read_rows_congr (a c) (off1_eq c r k) _ _)
theorem prod_own (k : Fin 2) :
    prodV (fun y => a c ((ownA c k).emb y)) (fun y => b c (wholeB.emb y)) = partV a b c c k :=
  congrArg (fun x => prodV x fun y => b c (wholeB.emb y)) (read_rows_congr (a c) (off4_eq c k) _ _)

/-- The two factors in their staging buffers. -/
def factors : sProp 𝕄 := iprop(owns (c : Thread nD τ) aM fullShare (a c) ∗ owns (c : Thread nD τ) bM fullShare (b c))

/-! ## Partial products -/

/-- What a partial product's step takes: the rows of the result it is stored to, the peer's landing slot, the two duties. -/
def partIn (k : Fin 2) (r : Fin 7) : sProp 𝕄 :=
  iprop(someChunk c (tileM oM (peer c r) k) ∗ someChunk (peer c r) (slotM sM r k)
    ∗ dutyTok ER (cell c (at_ 0 r k)) 0 0 ∗ dutyTok ER (cell (peer c r) (at_ 1 r k)) 0 0)
def credOf (j : Fin 4) (k : Fin 2) (r : Fin 7) : sProp 𝕄 := cred (tallyAt (cell c (at_ j r k)) () N)

theorem run_part (O : CellTallies nD τ sig Unit) (k : Fin 2) (r : Fin 7) (l : List (Fin 7)) (K : Steps F) (Q : PUnit → sProp 𝕄) :
    iprop(records a b κ ∗ (owing c (oweCopy c 1 k (r :: l) + O) ∗ factors a b c) ∗ partIn c k r)
      ⊢ iprop((((owing c (oweCopy c 1 k l + O) ∗ factors a b c) ∗ credOf c 0 k r) -∗ run c K Q)
        -∗ run c (stepPart aM bM oM sM cc0_scratch1 cc0_scratch2 c k r K) Q) := by
  unfold stepPart factors partIn credOf
  iintro ⟨#HR, ⟨HO, Ha, Hb⟩, ⟨%v, Hr⟩, Hs, Ht, Ht'⟩ HK
  iapply (load_part c (a c)) $$ Ha
  iintro Ha
  iapply (load_part c (b c)) $$ Hb
  iintro Hb
  iapply (load_rows c (peerRM_eq oM c r k) v) $$ Hr
  iintro Hr
  iapply (store_rows c (peerRM_eq oM c r k) (partV a b c (peer c r) k) (prod_peer a b c r k) v) $$ Hr
  iintro Hr
  iapply (run_copy_part a b κ c (partDev c k r) r k (partDev_eq c k r) (peerM_eq oM c r k) O l (fun _ => K) Q) $$ [HO Hr Hs Ht Ht']
  · isplitr; · iexact HR
    isplitl [HO]; · iexact HO
    isplitl [Hr]; · iexact Hr
    isplitl [Hs]; · iexact Hs
    isplitl [Ht] <;> iassumption
  iintro ⟨HO, Hc⟩
  iapply HK
  isplitl [HO Ha Hb]
  · isplitl [HO]; · iexact HO
    isplitl [Ha] <;> iassumption
  iexact Hc

/-- The own rows' step. -/
theorem run_own (k : Fin 2) (K : Steps F) (Q : PUnit → sProp 𝕄) :
    iprop(factors a b c ∗ someChunk c (tileM oM c k))
      ⊢ iprop(((factors a b c ∗ owns (c : Thread nD τ) (tileM oM c k) fullShare (partV a b c c k)) -∗ run c K Q)
        -∗ run c (stepOwn aM bM oM c k K) Q) := by
  unfold stepOwn factors
  iintro ⟨⟨Ha, Hb⟩, ⟨%v, Hr⟩⟩ HK
  iapply (load_part c (a c)) $$ Ha
  iintro Ha
  iapply (load_part c (b c)) $$ Hb
  iintro Hb
  iapply (load_rows c (ownRM_eq oM c k) v) $$ Hr
  iintro Hr
  iapply (store_rows c (ownRM_eq oM c k) (partV a b c c k) (prod_own a b c k) v) $$ Hr
  iintro Hr
  iapply HK
  isplitl [Ha Hb]
  · isplitl [Ha] <;> iassumption
  iexact Hr

/-! ## Sums -/

/-- A landing still to be waited for. -/
def toCome (j : Fin 4) (k : Fin 2) (r : Fin 7) : sProp 𝕄 := iprop(credOf c j k r ∗ atPos ER (cell c (at_ j r k)) 0 ∅ 0)
def past (j : Fin 4) (k : Fin 2) (r : Fin 7) : sProp 𝕄 := atPos ER (cell c (at_ j r k)) 1 ∅ 0
/-- What a sum's step leaves besides: the landing slot and the peer's rows the product came from. -/
def accOut (k : Fin 2) (r : Fin 7) : sProp 𝕄 :=
  iprop(past c 1 k r ∗ someChunk c (slotM sM r k) ∗ someChunk (peer c r) (tileM oM c k))

theorem run_acc {O : CellTallies nD τ sig Unit} (hO : Above 2 O) (k : Fin 2) (v : FVec F S32x512 .f32) (r : Fin 7) (l : List (Fin 7)) (K : Steps F) (Q : PUnit → sProp 𝕄) :
    iprop(records a b κ ∗ (owing c O ∗ owns (c : Thread nD τ) (tileM oM c k) fullShare v) ∗ toCome c 1 k r)
      ⊢ iprop((((owing c O ∗ owns (c : Thread nD τ) (tileM oM c k) fullShare (plusV v (asSlot (partV a b (peer c r) c k)))) ∗ accOut c k r) -∗ run c K Q)
        -∗ run c (stepAcc oM sM cc0_scratch2 c k r K) Q) := by
  unfold stepAcc toCome credOf accOut past
  iintro ⟨#HR, ⟨HO, Hv⟩, Hc, Hat⟩ HK
  iapply (run_wait a b κ c 1 r k (src := peerM oM c r k) (dst := slotM sM r k) (hsrc := View.wordExact_bits rfl) (hdst := (View.wordExact_bits rfl).reshape _ _) rfl 2 (Nat.le_refl 2) hO _ Q) $$ [HO Hc Hat]
  · isplitr; · iexact HR
    isplitl [HO]; · iexact HO
    isplitl [Hc] <;> iassumption
  unfold copyPay
  iintro ⟨HO, Hat, Hs, Hp⟩
  iapply (load_rows c (ownRM_eq oM c k) v) $$ Hv
  iintro Hv
  iapply (load_slot c r k (partV a b (peer c r) c k)) $$ Hs
  iintro Hs
  iapply (load_rows c (ownRM_eq oM c k) v) $$ Hv
  iintro Hv
  iapply (store_rows c (ownRM_eq oM c k) (plusV v (asSlot (partV a b (peer c r) c k))) rfl v) $$ Hv
  iintro Hv
  iapply HK
  isplitl [HO Hv]
  · isplitl [HO] <;> iassumption
  isplitl [Hat]; · iexact Hat
  isplitl [Hs]; · iexists _; iexact Hs
  iexists _; iexact Hp

theorem run_relu (k : Fin 2) (v : FVec F S32x512 .f32) (K : Steps F) (Q : PUnit → sProp 𝕄) :
    (owns (c : Thread nD τ) (tileM oM c k) fullShare v : sProp 𝕄)
      ⊢ iprop((owns (c : Thread nD τ) (tileM oM c k) fullShare (reluV v) -∗ run c K Q) -∗ run c (stepRelu oM c k K) Q) := by
  unfold stepRelu
  iintro Hv HK
  iapply (load_rows c (ownRM_eq oM c k) v) $$ Hv
  iintro Hv
  iapply (load_rows c (ownRM_eq oM c k) v) $$ Hv
  iintro Hv
  iapply (store_rows c (ownRM_eq oM c k) (reluV v) rfl v) $$ Hv
  iexact HK

/-! ## Finished rows -/

def doneIn (k : Fin 2) (r : Fin 7) : sProp 𝕄 :=
  iprop(owns (c : Thread nD τ) (tileM oM c k) (share r) (finV a b c k) ∗ someChunk (peer c r) (tileM oM c k)
    ∗ dutyTok ER (cell c (at_ 2 r k)) 0 0 ∗ dutyTok ER (cell (peer c r) (at_ 3 r k)) 0 0)

theorem run_done (O : CellTallies nD τ sig Unit) (k : Fin 2) (r : Fin 7) (l : List (Fin 7)) (K : Steps F) (Q : PUnit → sProp 𝕄) :
    iprop(records a b κ ∗ owing c (oweCopy c 3 k (r :: l) + O) ∗ doneIn a b c k r)
      ⊢ iprop(((owing c (oweCopy c 3 k l + O) ∗ credOf c 2 k r) -∗ run c K Q)
        -∗ run c (stepDone oM cc0_scratch3 cc0_scratch4 c k r K) Q) := by
  unfold stepDone doneIn credOf
  exact run_copy_done a b κ c (doneDev c k r) r k (doneDev_eq c k r) (ownM_eq oM c k) O l (fun _ => K) Q

def takeOut (k : Fin 2) (r : Fin 7) : sProp 𝕄 :=
  iprop(past c 3 k r ∗ owns (c : Thread nD τ) (tileM oM (peer c r) k) fullShare (finV a b (peer c r) k))

theorem run_take (x : Fin 7 × Fin 2) (K : Steps F) (Q : PUnit → sProp 𝕄) :
    iprop(records a b κ ∗ owing c 0 ∗ toCome c 3 x.2 x.1)
      ⊢ iprop(((owing c 0 ∗ takeOut a b c x.2 x.1) -∗ run c K Q) -∗ run c (stepTake oM cc0_scratch4 c x K) Q) := by
  unfold stepTake toCome credOf takeOut past
  exact run_wait a b κ c 3 x.1 x.2 (src := ownM oM c x.2) (dst := peerM oM c x.1 x.2) rfl 3 (Nat.le_refl 3) (Above.zero 3) (fun _ => K) Q

theorem run_left_part (k : Fin 2) (r : Fin 7) (K : Steps F) (Q : PUnit → sProp 𝕄) :
    iprop(records a b κ ∗ owing c 0 ∗ toCome c 0 k r)
      ⊢ iprop(((owing c 0 ∗ iprop(past c 0 k r ∗ emp)) -∗ run c K Q) -∗ run c (stepLeftPart oM sM cc0_scratch1 c k r K) Q) := by
  unfold stepLeftPart toCome credOf past
  exact run_wait a b κ c 0 r k (src := slotM sM r k) (dst := peerM oM c r k) rfl 0 (Nat.le_refl 0) (Above.zero 0) (fun _ => K) Q

def leftOut (k : Fin 2) (r : Fin 7) : sProp 𝕄 :=
  iprop(past c 2 k r ∗ owns (c : Thread nD τ) (tileM oM c k) (share r) (finV a b c k))

theorem run_left_done (k : Fin 2) (r : Fin 7) (K : Steps F) (Q : PUnit → sProp 𝕄) :
    iprop(records a b κ ∗ owing c 0 ∗ toCome c 2 k r)
      ⊢ iprop(((owing c 0 ∗ leftOut a b c k r) -∗ run c K Q) -∗ run c (stepLeftDone oM cc0_scratch3 c k r K) Q) := by
  unfold stepLeftDone toCome credOf leftOut past
  exact run_wait a b κ c 2 r k (src := ownM oM c k) (dst := ownM oM c k) rfl 0 (Nat.le_refl 0) (Above.zero 0) (fun _ => K) Q

end Rules

end Cert.KernelIdeal.Work

end
-- ==== Proof.Body.lean ====
/-
# The body

The phases one after another: what a device starts from, and what its body leaves.
-/
module

public import proofs.«01_k».proof.Proof.Phases

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

section Lists

variable {I : Type}

theorem list_sep (l : List I) (Φ Ψ : I → sProp 𝕄) : bigSepL l (fun i => iprop(Φ i ∗ Ψ i)) ⊣⊢ iprop(bigSepL l Φ ∗ bigSepL l Ψ) := by
  induction l with
  | nil =>
    simp only [bigSepL_nil]
    constructor
    · iintro -; isplitl <;> iempintro
    · iintro -; iempintro
  | cons i l ih =>
    simp only [bigSepL_cons']
    constructor
    · iintro ⟨⟨H1, H2⟩, Hl⟩
      ihave Hl := ih.1 $$ Hl
      icases Hl with ⟨Hl1, Hl2⟩
      isplitl [H1 Hl1]
      · isplitl [H1] <;> iassumption
      · isplitl [H2] <;> iassumption
    · iintro ⟨⟨H1, Hl1⟩, H2, Hl2⟩
      isplitl [H1 H2]
      · isplitl [H1] <;> iassumption
      iapply ih.2
      isplitl [Hl1] <;> iassumption

theorem list_join (l : List I) (Φ Ψ : I → sProp 𝕄) : iprop(bigSepL l Φ ∗ bigSepL l Ψ) ⊢ bigSepL l fun i => iprop(Φ i ∗ Ψ i) := (list_sep l Φ Ψ).2
theorem list_part (l : List I) (Φ Ψ : I → sProp 𝕄) : bigSepL l (fun i => iprop(Φ i ∗ Ψ i)) ⊢ iprop(bigSepL l Φ ∗ bigSepL l Ψ) := (list_sep l Φ Ψ).1

/-- One resource per peer and chunk. -/
def both (Φ : Fin 2 → Fin 7 → sProp 𝕄) : sProp 𝕄 := iprop(bigSepL order (Φ 0) ∗ bigSepL order (Φ 1))

/-- The cells of a table, by chunk. -/
def tabCells (j : Fin 4) : List Cl := order.map (fun r => at_ j r 0) ++ order.map (fun r => at_ j r 1)
theorem tab_both (j : Fin 4) (Φ : Cl → sProp 𝕄) : bigSepL (tabCells j) Φ = both fun k r => Φ (at_ j r k) := by
  unfold tabCells both
  rw [bigSepL_append, bigSepL_map, bigSepL_map]

set_option maxRecDepth 100000 in
theorem cells_split (Φ : Cl → sProp 𝕄) :
    bigSep Finset.univ Φ = iprop(Φ bar ∗ both (fun k r => Φ (at_ 0 r k)) ∗ both (fun k r => Φ (at_ 1 r k)) ∗ both (fun k r => Φ (at_ 2 r k)) ∗ both (fun k r => Φ (at_ 3 r k))) := by
  rw [bigSep_univ_eq_bigSepL (bar :: (tabCells 0 ++ (tabCells 1 ++ (tabCells 2 ++ tabCells 3)))) (by decide) (by decide) Φ,
    bigSepL_cons', bigSepL_append, bigSepL_append, bigSepL_append, tab_both, tab_both, tab_both, tab_both]

theorem slots_split (Φ : Fin 7 × Fin 2 → sProp 𝕄) : bigSep Finset.univ Φ = both fun k r => Φ (r, k) := by
  unfold both
  rw [bigSep_univ_eq_bigSepL (order.map (fun r => (r, (0 : Fin 2))) ++ order.map (fun r => (r, (1 : Fin 2)))) (by decide) (by decide) Φ, bigSepL_append, bigSepL_map, bigSepL_map]

theorem takes_both (Φ : Fin 2 → Fin 7 → sProp 𝕄) : bigSepL (order.flatMap fun r => [(r, (0 : Fin 2)), (r, 1)]) (fun x => Φ x.2 x.1) = both Φ := by
  rw [← bigSep_univ_eq_bigSepL _ (by decide) (by decide), slots_split]

/-- The sixteen chunks: the own two, and a peer's for each peer and chunk. -/
theorem tiles_split (c : Dev nD) (Φ : Dev nD × Fin 2 → sProp 𝕄) :
    bigSep Finset.univ Φ = iprop((Φ (c, 0) ∗ Φ (c, 1)) ∗ both fun k r => Φ (peer c r, k)) := by
  unfold both
  rw [bigSep_univ_eq_bigSepL ([(c, (0 : Fin 2)), (c, 1)] ++ (order.map (fun r => (peer c r, (0 : Fin 2))) ++ order.map (fun r => (peer c r, (1 : Fin 2)))))
    (by revert c; decide) (by revert c; decide) Φ, bigSepL_append, bigSepL_append, bigSepL_map, bigSepL_map, bigSepL_cons', bigSepL_singleton]

theorem peers_split (Φ : Fin 7 → sProp 𝕄) : bigSep Finset.univ Φ = bigSepL order Φ := bigSep_univ_eq_bigSepL order (by decide) (by decide) Φ

end Lists

/-! ## Shares of a chunk -/

/-- Peers at consecutive places from `n`. -/
def Placed : ℕ → List (Fin 7) → Prop
  | _, [] => True
  | n, r :: l => place r = n ∧ Placed (n + 1) l

theorem shares (c : Dev nD) (M : Memref sig .tc .vmem S32x512 .f32) (X : FVec F S32x512 .f32) : ∀ (l : List (Fin 7)) (n : ℕ), Placed n l →
    ((owns (c : Thread nD τ) M (restShare n) X : sProp 𝕄)
      ⊣⊢ iprop(bigSepL l (fun r => owns (c : Thread nD τ) M (share r) X) ∗ owns (c : Thread nD τ) M (restShare (n + l.length)) X))
  | [], n, _ => by
    rw [bigSepL_nil]
    constructor
    · iintro H; isplitr [H]; · iempintro
      iexact H
    · iintro ⟨-, H⟩; iexact H
  | r :: l, n, h => by
    obtain ⟨rfl, hl⟩ := h
    have ih := shares c M X l _ hl
    rw [show restShare (place r + 1) = (restShare (place r)).right from rfl] at ih
    rw [bigSepL_cons', List.length_cons, show place r + (l.length + 1) = place r + 1 + l.length by omega]
    rw [show share r = (restShare (place r)).left from rfl]
    have hh := owns_halves (Val := Elt F) (Ix := Unit) (Name := ℕ) (U := UU) (Lvl := ℕ) (c : Thread nD τ) M (restShare (place r)) X
    constructor
    · iintro H
      ihave H := hh.1 $$ H
      icases H with ⟨H1, H2⟩
      ihave H2 := ih.1 $$ H2
      icases H2 with ⟨H2, H3⟩
      isplitl [H1 H2]
      · isplitl [H1] <;> iassumption
      iexact H3
    · iintro ⟨⟨H1, H2⟩, H3⟩
      iapply hh.2
      isplitl [H1]; · iexact H1
      iapply ih.2
      isplitl [H2] <;> iassumption

theorem shares_order (c : Dev nD) (M : Memref sig .tc .vmem S32x512 .f32) (X : FVec F S32x512 .f32) :
    (owns (c : Thread nD τ) M fullShare X : sProp 𝕄)
      ⊣⊢ iprop(bigSepL order (fun r => owns (c : Thread nD τ) M (share r) X) ∗ owns (c : Thread nD τ) M (restShare 7) X) :=
  shares c M X order 0 (by refine ⟨rfl, rfl, rfl, rfl, rfl, rfl, rfl, trivial⟩)

section Rules

variable (a : Dev nD → Vec F S512x256 .f32) (b : Dev nD → Vec F S256x512 .f32) (κ : Dev nD × Cl → ℕ) (c : Dev nD)

/-! ## Names for the resources -/

def slotAny (k : Fin 2) (r : Fin 7) : sProp 𝕄 := someChunk c (slotM sM r k)
def peerSlot (k : Fin 2) (r : Fin 7) : sProp 𝕄 := someChunk (peer c r) (slotM sM r k)
def peerRows (k : Fin 2) (r : Fin 7) : sProp 𝕄 := someChunk c (tileM oM (peer c r) k)
def theirRows (k : Fin 2) (r : Fin 7) : sProp 𝕄 := someChunk (peer c r) (tileM oM c k)
def tok (j : Fin 4) (k : Fin 2) (r : Fin 7) : sProp 𝕄 := dutyTok ER (cell c (at_ j r k)) 0 0
def tokP (j : Fin 4) (k : Fin 2) (r : Fin 7) : sProp 𝕄 := dutyTok ER (cell (peer c r) (at_ j r k)) 0 0
def tokBar (r : Fin 7) : sProp 𝕄 := dutyTok ER (cell (peer c r) bar) 0 r
def pos (j : Fin 4) (k : Fin 2) (r : Fin 7) : sProp 𝕄 := atPos ER (cell c (at_ j r k)) 0 ∅ 0
abbrev ownRows (q : PosShare TreeShare) (k : Fin 2) (v : FVec F S32x512 .f32) : sProp 𝕄 := owns (c : Thread nD τ) (tileM oM c k) q v
/-- A peer's finished rows. -/
def doneRows (k : Fin 2) (r : Fin 7) : sProp 𝕄 := owns (c : Thread nD τ) (tileM oM (peer c r) k) fullShare (finV a b (peer c r) k)

/-! ## The phases -/

/-- The signals and the barrier. -/
theorem run_start (K : Steps F) (Q : PUnit → sProp 𝕄) :
    iprop(records a b κ ∗ owing c (O₀ c) ∗ bigSepL order (tokBar c) ∗ both (slotAny c) ∗ cred (tallyAt (cell c bar) () 7) ∗ atPos ER (cell c bar) 0 ∅ 0)
      ⊢ iprop(((owing c (owePart c) ∗ atPos ER (cell c bar) 1 ∅ 0 ∗ both (peerSlot c)) -∗ run c K Q)
        -∗ run c (each (stepSig c) order (stepBar K)) Q) := by
  unfold both
  iintro ⟨#HR, HO, Ht, ⟨H0, H1⟩, Hc, Hat⟩ HK
  ihave H := (list_join order (slotAny c 0) (slotAny c 1)) $$ [H0 H1]
  · isplitl [H0] <;> iassumption
  ihave H := (list_join order (tokBar c) _) $$ [Ht H]
  · isplitl [Ht] <;> iassumption
  iapply (run_each c (records a b κ) (fun (_ : Unit) l => owing c (oweSig c l + owePart c)) (fun r => iprop(tokBar c r ∗ slotAny c 0 r ∗ slotAny c 1 r)) (fun _ => iprop(emp))
    (fun s _ => s) (stepSig c) Q (fun _ r l K => run_sig a b κ c (owePart c) r l K Q) order () (stepBar K)) $$ [HO H]
  · isplitr; · iexact HR
    isplitl [HO]; · iexact HO
    iexact H
  iintro ⟨HO, -⟩
  iapply (run_bar a b κ c (O := oweSig c [] + owePart c) (by rw [show oweSig c [] + owePart c = owePart c from zero_add _]; exact above_owePart c) K Q) $$ [HO Hc Hat]
  · isplitr; · iexact HR
    isplitl [HO]; · iexact HO
    isplitl [Hc] <;> iassumption
  rw [show oweSig c [] + owePart c = owePart c from zero_add _, peers_split]
  iintro ⟨HO, Hat, H⟩
  iapply HK
  isplitl [HO]; · iexact HO
  isplitl [Hat]; · iexact Hat
  iapply (list_part order (peerSlot c 0) (peerSlot c 1))
  iexact H

/-- The partial products at a chunk. -/
theorem run_parts (O : CellTallies nD τ sig Unit) (k : Fin 2) (K : Steps F) (Q : PUnit → sProp 𝕄) :
    iprop(records a b κ ∗ owing c (oweCopy c 1 k order + O) ∗ factors a b c ∗ bigSepL order (peerRows c k) ∗ bigSepL order (peerSlot c k)
        ∗ bigSepL order (tok c 0 k) ∗ bigSepL order (tokP c 1 k) ∗ someChunk c (tileM oM c k))
      ⊢ iprop(((owing c O ∗ factors a b c ∗ bigSepL order (credOf c 0 k) ∗ ownRows c fullShare k (partV a b c c k)) -∗ run c K Q)
        -∗ run c (each (stepPart aM bM oM sM cc0_scratch1 cc0_scratch2 c k) order (stepOwn aM bM oM c k K)) Q) := by
  iintro ⟨#HR, HO, Hf, H1, H2, H3, H4, Hown⟩ HK
  ihave H := (list_join order (tok c 0 k) (tokP c 1 k)) $$ [H3 H4]
  · isplitl [H3] <;> iassumption
  ihave H := (list_join order (peerSlot c k) _) $$ [H2 H]
  · isplitl [H2] <;> iassumption
  ihave H := (list_join order (peerRows c k) _) $$ [H1 H]
  · isplitl [H1] <;> iassumption
  iapply (run_each c (records a b κ) (fun (_ : Unit) l => iprop(owing c (oweCopy c 1 k l + O) ∗ factors a b c)) (partIn c k) (credOf c 0 k)
    (fun s _ => s) (stepPart aM bM oM sM cc0_scratch1 cc0_scratch2 c k) Q (fun _ r l K => run_part a b κ c O k r l K Q) order () (stepOwn aM bM oM c k K)) $$ [HO Hf H]
  · isplitr; · iexact HR
    isplitr [H]
    · isplitl [HO] <;> iassumption
    iexact H
  rw [show oweCopy c 1 k [] + O = O from zero_add _]
  iintro ⟨⟨HO, Hf⟩, Hc⟩
  iapply (run_own a b c k K Q) $$ [Hf Hown]
  · isplitl [Hf] <;> iassumption
  iintro ⟨Hf, Hown⟩
  iapply HK
  isplitl [HO]; · iexact HO
  isplitl [Hf]; · iexact Hf
  isplitl [Hc]; · iexact Hc
  iexact Hown

/-- The sum at a chunk, and its finished rows on their way. -/
theorem run_sums (O : CellTallies nD τ sig Unit) (hO : Above 2 O) (k : Fin 2) (K : Steps F) (Q : PUnit → sProp 𝕄) :
    iprop(records a b κ ∗ owing c (oweCopy c 3 k order + O) ∗ ownRows c fullShare k (partV a b c c k) ∗ bigSepL order (credOf c 1 k) ∗ bigSepL order (pos c 1 k)
        ∗ bigSepL order (tok c 2 k) ∗ bigSepL order (tokP c 3 k))
      ⊢ iprop(((owing c O ∗ bigSepL order (past c 1 k) ∗ bigSepL order (slotAny c k) ∗ bigSepL order (credOf c 2 k) ∗ ownRows c (restShare 7) k (finV a b c k)) -∗ run c K Q)
        -∗ run c (each (stepAcc oM sM cc0_scratch2 c k) order (stepRelu oM c k (each (stepDone oM cc0_scratch3 cc0_scratch4 c k) order K))) Q) := by
  iintro ⟨#HR, HO, Hown, H1, H2, H3, H4⟩ HK
  ihave H := (list_join order (credOf c 1 k) (pos c 1 k)) $$ [H1 H2]
  · isplitl [H1] <;> iassumption
  have hO' : Above 2 (oweCopy c 3 k order + O) := (above_done c k _).add hO
  iapply (run_each c (records a b κ) (fun (v : FVec F S32x512 .f32) l => iprop(owing c (oweCopy c 3 k order + O) ∗ owns (c : Thread nD τ) (tileM oM c k) fullShare v))
    (toCome c 1 k) (fun r => iprop(past c 1 k r ∗ slotAny c k r ∗ theirRows c k r)) (fun v r => plusV v (asSlot (partV a b (peer c r) c k))) (stepAcc oM sM cc0_scratch2 c k) Q
    (fun v r l K => run_acc a b κ c hO' k v r l K Q) order (partV a b c c k) (stepRelu oM c k (each (stepDone oM cc0_scratch3 cc0_scratch4 c k) order K))) $$ [HO Hown H]
  · isplitr; · iexact HR
    isplitr [H]
    · isplitl [HO]; · iexact HO
      iexact Hown
    iexact H
  rw [show List.foldl (fun v r => plusV v (asSlot (partV a b (peer c r) c k))) (partV a b c c k) order = accV a b c k order from rfl]
  iintro ⟨⟨HO, Hown⟩, H⟩
  iapply (run_relu c k (accV a b c k order) (each (stepDone oM cc0_scratch3 cc0_scratch4 c k) order K) Q) $$ Hown
  rw [show reluV (accV a b c k order) = finV a b c k from rfl]
  iintro Hown
  ihave Hown := (shares_order c (tileM oM c k) (finV a b c k)).1 $$ Hown
  icases Hown with ⟨Hsh, Hown⟩
  ihave H := (list_part order (past c 1 k) _) $$ H
  icases H with ⟨Hpast, H⟩
  ihave H := (list_part order (slotAny c k) (theirRows c k)) $$ H
  icases H with ⟨Hslot, Hrows⟩
  ihave H := (list_join order (tok c 2 k) (tokP c 3 k)) $$ [H3 H4]
  · isplitl [H3] <;> iassumption
  ihave H := (list_join order (theirRows c k) _) $$ [Hrows H]
  · isplitl [Hrows] <;> iassumption
  ihave H := (list_join order (fun r => owns (c : Thread nD τ) (tileM oM c k) (share r) (finV a b c k)) _) $$ [Hsh H]
  · isplitl [Hsh] <;> iassumption
  iapply (run_each c (records a b κ) (fun (_ : Unit) l => owing c (oweCopy c 3 k l + O)) (doneIn a b c k) (credOf c 2 k)
    (fun s _ => s) (stepDone oM cc0_scratch3 cc0_scratch4 c k) Q (fun _ r l K => run_done a b κ c O k r l K Q) order () K) $$ [HO H]
  · isplitr; · iexact HR
    isplitl [HO]; · iexact HO
    iexact H
  rw [show oweCopy c 3 k [] + O = O from zero_add _]
  iintro ⟨HO, Hc⟩
  iapply HK
  isplitl [HO]; · iexact HO
  isplitl [Hpast]; · iexact Hpast
  isplitl [Hslot]; · iexact Hslot
  isplitl [Hc]; · iexact Hc
  iexact Hown

/-- The peers' finished rows arrive. -/
theorem run_takes (K : Steps F) (Q : PUnit → sProp 𝕄) :
    iprop(records a b κ ∗ owing c 0 ∗ both (credOf c 3) ∗ both (pos c 3))
      ⊢ iprop(((owing c 0 ∗ both (past c 3) ∗ both (doneRows a b c)) -∗ run c K Q)
        -∗ run c (each (stepTake oM cc0_scratch4 c) (order.flatMap fun r => [(r, 0), (r, 1)]) K) Q) := by
  rw [← takes_both (credOf c 3), ← takes_both (pos c 3), ← takes_both (past c 3), ← takes_both (doneRows a b c)]
  iintro ⟨#HR, HO, H1, H2⟩ HK
  ihave H := (list_join _ (fun x : Fin 7 × Fin 2 => credOf c 3 x.2 x.1) (fun x => pos c 3 x.2 x.1)) $$ [H1 H2]
  · isplitl [H1] <;> iassumption
  iapply (run_each c (records a b κ) (fun (_ : Unit) _ => owing c 0) (fun x : Fin 7 × Fin 2 => toCome c 3 x.2 x.1) (fun x => takeOut a b c x.2 x.1)
    (fun s _ => s) (stepTake oM cc0_scratch4 c) Q (fun _ x l K => run_take a b κ c x K Q) _ () K) $$ [HO H]
  · isplitr; · iexact HR
    isplitl [HO]; · iexact HO
    iexact H
  iintro ⟨HO, H⟩
  iapply HK
  isplitl [HO]; · iexact HO
  iapply (list_part _ (fun x : Fin 7 × Fin 2 => past c 3 x.2 x.1) (fun x => doneRows a b c x.2 x.1))
  iexact H

/-- The partial products have left. -/
theorem run_left_parts (k : Fin 2) (K : Steps F) (Q : PUnit → sProp 𝕄) :
    iprop(records a b κ ∗ owing c 0 ∗ bigSepL order (credOf c 0 k) ∗ bigSepL order (pos c 0 k))
      ⊢ iprop(((owing c 0 ∗ bigSepL order (past c 0 k)) -∗ run c K Q)
        -∗ run c (each (stepLeftPart oM sM cc0_scratch1 c k) order K) Q) := by
  iintro ⟨#HR, HO, H1, H2⟩ HK
  ihave H := (list_join order (credOf c 0 k) (pos c 0 k)) $$ [H1 H2]
  · isplitl [H1] <;> iassumption
  iapply (run_each c (records a b κ) (fun (_ : Unit) _ => owing c 0) (toCome c 0 k) (fun r => iprop(past c 0 k r ∗ emp))
    (fun s _ => s) (stepLeftPart oM sM cc0_scratch1 c k) Q (fun _ r l K => run_left_part a b κ c k r K Q) order () K) $$ [HO H]
  · isplitr; · iexact HR
    isplitl [HO]; · iexact HO
    iexact H
  iintro ⟨HO, H⟩
  ihave H := (list_part order (past c 0 k) _) $$ H
  icases H with ⟨H, -⟩
  iapply HK
  isplitl [HO] <;> iassumption

/-- The finished rows have left: the chunk is whole again. -/
theorem run_left_dones (k : Fin 2) (K : Steps F) (Q : PUnit → sProp 𝕄) :
    iprop(records a b κ ∗ owing c 0 ∗ bigSepL order (credOf c 2 k) ∗ bigSepL order (pos c 2 k) ∗ ownRows c (restShare 7) k (finV a b c k))
      ⊢ iprop(((owing c 0 ∗ bigSepL order (past c 2 k) ∗ ownRows c fullShare k (finV a b c k)) -∗ run c K Q)
        -∗ run c (each (stepLeftDone oM cc0_scratch3 c k) order K) Q) := by
  iintro ⟨#HR, HO, H1, H2, Hown⟩ HK
  ihave H := (list_join order (credOf c 2 k) (pos c 2 k)) $$ [H1 H2]
  · isplitl [H1] <;> iassumption
  iapply (run_each c (records a b κ) (fun (_ : Unit) _ => owing c 0) (toCome c 2 k) (fun r => iprop(past c 2 k r ∗ owns (c : Thread nD τ) (tileM oM c k) (share r) (finV a b c k)))
    (fun s _ => s) (stepLeftDone oM cc0_scratch3 c k) Q (fun _ r l K => run_left_done a b κ c k r K Q) order () K) $$ [HO H]
  · isplitr; · iexact HR
    isplitl [HO]; · iexact HO
    iexact H
  iintro ⟨HO, H⟩
  ihave H := (list_part order (past c 2 k) _) $$ H
  icases H with ⟨H, Hsh⟩
  iapply HK
  isplitl [HO]; · iexact HO
  isplitl [H]; · iexact H
  iapply (shares_order c (tileM oM c k) (finV a b c k)).2
  isplitl [Hsh]; · iexact Hsh
  iexact Hown

/-! ## The whole body -/

/-- What the body takes. -/
def bodyIn : sProp 𝕄 :=
  iprop(owing c (O₀ c) ∗ factors a b c ∗ both (slotAny c) ∗ ((someChunk c (tileM oM c 0) ∗ someChunk c (tileM oM c 1)) ∗ both (peerRows c))
    ∗ (bigSepL order (tokBar c) ∗ both (tok c 0) ∗ both (tokP c 1) ∗ both (tok c 2) ∗ both (tokP c 3))
    ∗ (cred (tallyAt (cell c bar) () 7) ∗ both (credOf c 1) ∗ both (credOf c 3))
    ∗ (atPos ER (cell c bar) 0 ∅ 0 ∗ both (pos c 0) ∗ both (pos c 1) ∗ both (pos c 2) ∗ both (pos c 3)))
/-- What it leaves. -/
def bodyOut : sProp 𝕄 :=
  iprop(owing c 0 ∗ factors a b c ∗ both (slotAny c)
    ∗ ((ownRows c fullShare 0 (finV a b c 0) ∗ ownRows c fullShare 1 (finV a b c 1)) ∗ both (doneRows a b c))
    ∗ (atPos ER (cell c bar) 1 ∅ 0 ∗ both (past c 0) ∗ both (past c 1) ∗ both (past c 2) ∗ both (past c 3)))

theorem run_listed (Q : PUnit → sProp 𝕄) :
    iprop(records a b κ ∗ bodyIn a b c)
      ⊢ iprop((bodyOut a b c -∗ run c (.ret ⟨⟩) Q) -∗ run c (listed aM bM oM sM cc0_scratch1 cc0_scratch2 cc0_scratch3 cc0_scratch4 c) Q) := by
  unfold bodyIn listed
  iintro ⟨#HR, HO, Hf, Hsl, ⟨⟨Hown0, Hown1⟩, Hrows⟩, ⟨HtB, Ht0, Ht1, Ht2, Ht3⟩, ⟨HcB, Hc1, Hc3⟩, HpB, Hp0, Hp1, Hp2, Hp3⟩ HK
  iapply (run_start a b κ c _ Q) $$ [HO HtB Hsl HcB HpB]
  · isplitr; · iexact HR
    isplitl [HO]; · iexact HO
    isplitl [HtB]; · iexact HtB
    isplitl [Hsl]; · iexact Hsl
    isplitl [HcB] <;> iassumption
  iintro ⟨HO, HpB, Hsl⟩
  unfold both owePart
  icases Hsl with ⟨Hsl0, Hsl1⟩
  icases Hrows with ⟨Hrows0, Hrows1⟩
  icases Ht0 with ⟨Ht00, Ht01⟩
  icases Ht1 with ⟨Ht10, Ht11⟩
  icases Ht2 with ⟨Ht20, Ht21⟩
  icases Ht3 with ⟨Ht30, Ht31⟩
  icases Hc1 with ⟨Hc10, Hc11⟩
  icases Hp0 with ⟨Hp00, Hp01⟩
  icases Hp1 with ⟨Hp10, Hp11⟩
  icases Hp2 with ⟨Hp20, Hp21⟩
  iapply (run_parts a b κ c _ 0 _ Q) $$ [HO Hf Hrows0 Hsl0 Ht00 Ht10 Hown0]
  · isplitr; · iexact HR
    isplitl [HO]; · iexact HO
    isplitl [Hf]; · iexact Hf
    isplitl [Hrows0]; · iexact Hrows0
    isplitl [Hsl0]; · iexact Hsl0
    isplitl [Ht00]; · iexact Ht00
    isplitl [Ht10] <;> iassumption
  iintro ⟨HO, Hf, Hc00, Hown0⟩
  iapply (run_parts a b κ c _ 1 _ Q) $$ [HO Hf Hrows1 Hsl1 Ht01 Ht11 Hown1]
  · isplitr; · iexact HR
    isplitl [HO]; · iexact HO
    isplitl [Hf]; · iexact Hf
    isplitl [Hrows1]; · iexact Hrows1
    isplitl [Hsl1]; · iexact Hsl1
    isplitl [Ht01]; · iexact Ht01
    isplitl [Ht11] <;> iassumption
  iintro ⟨HO, Hf, Hc01, Hown1⟩
  unfold oweDone
  iapply (run_sums a b κ c (oweCopy c 3 1 order + 0) ((above_done c 1 _).add (Above.zero 2)) 0 _ Q) $$ [HO Hown0 Hc10 Hp10 Ht20 Ht30]
  · isplitr; · iexact HR
    isplitl [HO]; · iexact HO
    isplitl [Hown0]; · iexact Hown0
    isplitl [Hc10]; · iexact Hc10
    isplitl [Hp10]; · iexact Hp10
    isplitl [Ht20] <;> iassumption
  iintro ⟨HO, Hp10, Hsl0, Hc20, Hown0⟩
  iapply (run_sums a b κ c 0 (Above.zero 2) 1 _ Q) $$ [HO Hown1 Hc11 Hp11 Ht21 Ht31]
  · isplitr; · iexact HR
    isplitl [HO]; · iexact HO
    isplitl [Hown1]; · iexact Hown1
    isplitl [Hc11]; · iexact Hc11
    isplitl [Hp11]; · iexact Hp11
    isplitl [Ht21] <;> iassumption
  iintro ⟨HO, Hp11, Hsl1, Hc21, Hown1⟩
  iapply (run_takes a b κ c _ Q) $$ [HO Hc3 Hp3]
  · isplitr; · iexact HR
    isplitl [HO]; · iexact HO
    isplitl [Hc3]; · unfold both; iexact Hc3
    unfold both; iexact Hp3
  iintro ⟨HO, Hp3, Hdone⟩
  iapply (run_left_parts a b κ c 0 _ Q) $$ [HO Hc00 Hp00]
  · isplitr; · iexact HR
    isplitl [HO]; · iexact HO
    isplitl [Hc00] <;> iassumption
  iintro ⟨HO, Hp00⟩
  iapply (run_left_parts a b κ c 1 _ Q) $$ [HO Hc01 Hp01]
  · isplitr; · iexact HR
    isplitl [HO]; · iexact HO
    isplitl [Hc01] <;> iassumption
  iintro ⟨HO, Hp01⟩
  iapply (run_left_dones a b κ c 0 _ Q) $$ [HO Hc20 Hp20 Hown0]
  · isplitr; · iexact HR
    isplitl [HO]; · iexact HO
    isplitl [Hc20]; · iexact Hc20
    isplitl [Hp20] <;> iassumption
  iintro ⟨HO, Hp20, Hown0⟩
  iapply (run_left_dones a b κ c 1 _ Q) $$ [HO Hc21 Hp21 Hown1]
  · isplitr; · iexact HR
    isplitl [HO]; · iexact HO
    isplitl [Hc21]; · iexact Hc21
    isplitl [Hp21] <;> iassumption
  iintro ⟨HO, Hp21, Hown1⟩
  iapply HK
  unfold bodyOut both
  isplitl [HO]; · iexact HO
  isplitl [Hf]; · iexact Hf
  isplitl [Hsl0 Hsl1]
  · isplitl [Hsl0] <;> iassumption
  isplitl [Hown0 Hown1 Hdone]
  · isplitl [Hown0 Hown1]
    · isplitl [Hown0] <;> iassumption
    iexact Hdone
  isplitl [HpB]; · iexact HpB
  isplitl [Hp00 Hp01]
  · isplitl [Hp00] <;> iassumption
  isplitl [Hp10 Hp11]
  · isplitl [Hp10] <;> iassumption
  isplitl [Hp20 Hp21]
  · isplitl [Hp20] <;> iassumption
  iexact Hp3

end Rules

end Cert.KernelIdeal.Work

end
-- ==== Proof.Deal.lean ====
/-
# What the launch deals

The buffers cut into chunks and slots and joined again, the duty tokens dealt to the devices that pay with them, the credit of
each cell, and the cells closed at the end.
-/
module

public import proofs.«01_k».proof.Proof.Body

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers -/

section Mem

variable (c : Dev nD)

theorem elt_nonempty : ∀ e : EltTy, Nonempty (Elt F e) := fun e => inferInstance

theorem some_of (M : Memref sig .tc .vmem S32x512 .f32) (v : FVec F S32x512 .f32) : (owns (c : Thread nD τ) M fullShare v : sProp 𝕄) ⊢ someChunk c M := by
  iintro H; iexists _; iexact H

/-- The result's buffer is its sixteen chunks. -/
theorem tiles_of (X : FVec F S512x512 .f32) :
    (owns (c : Thread nD τ) oM fullShare X : sProp 𝕄)
      ⊢ iprop((someChunk c (tileM oM c 0) ∗ someChunk c (tileM oM c 1)) ∗ both (peerRows c)) := by
  refine (owns_rects (Val := Elt F) (c : Thread nD τ) oM fullShare (fun x : Dev nD × Fin 2 => tile x.1 x.2) (fun _ _ => rfl) tile_disjoint tile_cover X).trans ?_
  refine (bigSep_mono (Ψ := fun x : Dev nD × Fin 2 => someChunk c (tileM oM x.1 x.2)) fun x _ => ?_).trans ?_
  · exact some_of c (tileM oM x.1 x.2) _
  · exact Entails.of_eq (tiles_split c _)

theorem tiles_join (a : Dev nD → Vec F S512x256 .f32) (b : Dev nD → Vec F S256x512 .f32) :
    iprop((ownRows c fullShare 0 (finV a b c 0) ∗ ownRows c fullShare 1 (finV a b c 1)) ∗ both (doneRows a b c))
      ⊢ (owns (c : Thread nD τ) oM fullShare (outV a b) : sProp 𝕄) := by
  refine (Entails.of_eq (tiles_split c (fun x : Dev nD × Fin 2 => (owns (c : Thread nD τ) (tileM oM x.1 x.2) fullShare (finV a b x.1 x.2) : sProp 𝕄))).symm).trans ?_
  refine .trans ?_ (owns_of_rects (Val := Elt F) (c : Thread nD τ) oM fullShare (fun x : Dev nD × Fin 2 => tile x.1 x.2) (fun _ _ => rfl) tile_disjoint tile_cover (outV a b))
  refine bigSep_mono fun x _ => ?_
  rw [show (fun j => outV a b ((tile x.1 x.2).emb j)) = finV a b x.1 x.2 from funext fun j => outV_emb a b x j]
  exact BI.Entails.refl _

/-- A landing slot is its part of the scratch buffer. -/
theorem slot_of (r : Fin 7) (k : Fin 2) (q : PosShare TreeShare) (X : (slotR r k).shape.Idx → Elt F .f32) :
    (owns (c : Thread nD τ) (sM.slice (slotR r k) (fun _ => rfl)) q X : sProp 𝕄)
      ⊢ owns (c : Thread nD τ) (slotM sM r k) q (fun y => X (Shape.reshapeEquiv squeezes_S1x32x512_S32x512.numel_eq y)) := by
  unfold owns
  iintro ⟨%f, %hf, H⟩
  subst hf
  iexists f
  isplitr; · ipureintro; rfl
  rw [show (slotM sM r k).view.set = (sM.slice (slotR r k) (fun _ => rfl)).view.set from View.set_reshape _ _]
  iexact H

theorem slot_to (r : Fin 7) (k : Fin 2) :
    slotAny c k r ⊢ (iprop(∃ X : (slotR r k).shape.Idx → Elt F .f32, owns (c : Thread nD τ) (sM.slice (slotR r k) (fun _ => rfl)) fullShare X) : sProp 𝕄) := by
  unfold slotAny someChunk owns
  iintro ⟨%v, %f, %hf, H⟩
  iexists (sM.slice (slotR r k) (fun _ => rfl)).view.read (Elt F) f
  iexists f
  isplitr; · ipureintro; rfl
  rw [show (slotM sM r k).view.set = (sM.slice (slotR r k) (fun _ => rfl)).view.set from View.set_reshape _ _]
  iexact H

theorem slots_of (f : Buf (Elt F) ((c : Thread nD τ).loc cc0_scratch0)) :
    (((c : Thread nD τ).loc cc0_scratch0) ↦{fullShare} f : sProp 𝕄) ⊢ both (slotAny c) := by
  rw [← owns_whole (c : Thread nD τ) cc0_scratch0 fullShare f]
  refine (owns_rects (Val := Elt F) (c : Thread nD τ) sM fullShare (fun x : Fin 7 × Fin 2 => slotR x.1 x.2) (fun _ _ => rfl) slot_disjoint slot_cover f).trans ?_
  refine (bigSep_mono (Ψ := fun x : Fin 7 × Fin 2 => slotAny c x.2 x.1) fun x _ => ?_).trans ?_
  · exact (slot_of c x.1 x.2 fullShare _).trans (some_of c (slotM sM x.1 x.2) _)
  · exact Entails.of_eq (slots_split _)

theorem slots_join : both (slotAny c) ⊢ (iprop(∃ f : Buf (Elt F) ((c : Thread nD τ).loc cc0_scratch0), ((c : Thread nD τ).loc cc0_scratch0) ↦{fullShare} f) : sProp 𝕄) := by
  refine (Entails.of_eq (slots_split (fun x : Fin 7 × Fin 2 => slotAny c x.2 x.1)).symm).trans ?_
  refine (bigSep_mono fun x _ => slot_to c x.1 x.2).trans ?_
  haveI (x : Fin 7 × Fin 2) : Nonempty ((slotR x.1 x.2).shape.Idx → Elt F .f32) := ⟨fun _ => Classical.choice (elt_nonempty (F := F) .f32)⟩
  refine (BI.bigSep_exists_pi Finset.univ
    (fun (x : Fin 7 × Fin 2) (X : (slotR x.1 x.2).shape.Idx → Elt F .f32) => (owns (c : Thread nD τ) (sM.slice (slotR x.1 x.2) (fun _ => rfl)) fullShare X : sProp 𝕄))).trans ?_
  iintro ⟨%Xs, H⟩
  iexists Rect.glue (fun x : Fin 7 × Fin 2 => slotR x.1 x.2) slot_cover Xs
  rw [← owns_whole (c : Thread nD τ) cc0_scratch0 fullShare (Rect.glue (fun x : Fin 7 × Fin 2 => slotR x.1 x.2) slot_cover Xs)]
  iapply (owns_of_rects (Val := Elt F) (c : Thread nD τ) sM fullShare (fun x : Fin 7 × Fin 2 => slotR x.1 x.2) (fun _ _ => rfl) slot_disjoint slot_cover
    (Rect.glue (fun x : Fin 7 × Fin 2 => slotR x.1 x.2) slot_cover Xs))
  have hg (x : Fin 7 × Fin 2) : (fun j => Rect.glue (fun x : Fin 7 × Fin 2 => slotR x.1 x.2) slot_cover Xs ((slotR x.1 x.2).emb j)) = Xs x :=
    funext fun y => Rect.glue_emb (fun x : Fin 7 × Fin 2 => slotR x.1 x.2) slot_cover slot_disjoint Xs x y
  simp only [hg]
  iexact H

end Mem

/-! ## Duty tokens -/

section Toks

/-- A duty: a peer's signal, or the raise of a table's entry. -/
abbrev Duty := Fin 7 ⊕ Copy
/-- The token of a duty of a device's own cells. -/
def tokOf (x : Dev nD × Duty) : GSem nD τ sig × ℕ × Fin 7 :=
  match x.2 with
  | .inl r => (cell x.1 bar, 0, r)
  | .inr y => (cell x.1 (some y), 0, 0)
theorem tokOf_inj : Function.Injective tokOf := by
  rintro ⟨c, t⟩ ⟨c', t'⟩ h
  have hd : ∀ (x : Cl × Fin 7) (x' : Cl × Fin 7), ((cell c x.1, 0, x.2) : GSem nD τ sig × ℕ × Fin 7) = (cell c' x'.1, 0, x'.2) → c = c' ∧ x = x' := by
    intro x x' h
    have h1 := cell_inj (a₁ := (c, x.1)) (a₂ := (c', x'.1)) (congrArg Prod.fst h)
    exact ⟨congrArg Prod.fst h1, Prod.ext (congrArg Prod.snd h1) (congrArg (fun z : GSem nD τ sig × ℕ × Fin 7 => z.2.2) h)⟩
  rcases t with r | y <;> rcases t' with r' | y'
  · obtain ⟨h1, h2⟩ := hd (bar, r) (bar, r') h
    rw [h1, show r = r' from congrArg Prod.snd h2]
  · obtain ⟨h1, h2⟩ := hd (bar, r) (some y', 0) h
    cases congrArg Prod.fst h2
  · obtain ⟨h1, h2⟩ := hd (some y, 0) (bar, r') h
    cases congrArg Prod.fst h2
  · obtain ⟨h1, h2⟩ := hd (some y, 0) (some y', 0) h
    rw [h1, show y = y' from Option.some.inj (congrArg Prod.fst h2)]

/-- Who pays a duty of device `c`: the peer whose signal or whose copy lands, or `c` itself for what leaves it. -/
def payer (c : Dev nD) : Duty → Dev nD
  | .inl r => peer c r
  | .inr (j, r, k) => if j = 1 ∨ j = 3 then peer c r else c
theorem payer_payer (c : Dev nD) (t : Duty) : payer (payer c t) t = c := by
  rcases t with r | ⟨j, r, k⟩
  · exact peer_peer c r
  · by_cases h : j = 1 ∨ j = 3
    · simp only [payer, if_pos h]; exact peer_peer c r
    · simp only [payer, if_neg h]
/-- The exchange of devices along a duty. -/
def swap (t : Duty) : Dev nD ≃ Dev nD := ⟨fun c => payer c t, fun c => payer c t, fun c => payer_payer c t, fun c => payer_payer c t⟩

/-- A duty's token. -/
def tokAt (c : Dev nD) (t : Duty) : sProp 𝕄 := dutyTok ER (tokOf (c, t)).1 (tokOf (c, t)).2.1 (tokOf (c, t)).2.2

/-- Every token to the device that pays with it. -/
theorem toks_around :
    (bigSep Finset.univ fun c : Dev nD => bigSep Finset.univ fun t : Duty => (tokAt c t : sProp 𝕄))
      = bigSep Finset.univ fun c : Dev nD => bigSep Finset.univ fun t : Duty => tokAt (payer c t) t := by
  rw [bigSep_univ_comm, bigSep_univ_comm (fun c t => tokAt (payer c t) t)]
  exact bigSep_congr fun t _ => bigSep_univ_equiv (swap t) (fun c => (tokAt c t : sProp 𝕄))

set_option maxRecDepth 100000 in
theorem copies_split (Φ : Copy → sProp 𝕄) :
    bigSep Finset.univ Φ = iprop(both (fun k r => Φ (0, r, k)) ∗ both (fun k r => Φ (1, r, k)) ∗ both (fun k r => Φ (2, r, k)) ∗ both (fun k r => Φ (3, r, k))) := by
  rw [bigSep_univ_prod, bigSep_univ_eq_bigSepL [(0 : Fin 4), 1, 2, 3] (by decide) (by decide), bigSepL_cons', bigSepL_cons', bigSepL_cons', bigSepL_singleton,
    slots_split, slots_split, slots_split, slots_split]

theorem toks_deal (c : Dev nD) :
    (bigSep Finset.univ fun t : Duty => (tokAt (payer c t) t : sProp 𝕄))
      = iprop(bigSepL order (tokBar c) ∗ both (tok c 0) ∗ both (tokP c 1) ∗ both (tok c 2) ∗ both (tokP c 3)) := by
  rw [bigSep_univ_sum, copies_split, peers_split]
  rfl

end Toks

/-! ## Credit -/

section Credit

/-- What a cell's launch credit is, a copy's amount `n`. -/
def due (n : ℕ) (x : Cl) : ℕ :=
  (order.map fun _ => if x = bar then 1 else 0).sum
    + ((order.map fun r => if x = at_ 1 r 0 then n else 0).sum + ((order.map fun r => if x = at_ 1 r 1 then n else 0).sum
      + ((order.map fun r => if x = at_ 3 r 0 then n else 0).sum + ((order.map fun r => if x = at_ 3 r 1 then n else 0).sum + 0))))
theorem due_bar (n : ℕ) : due n bar = 7 := rfl
theorem due_part (n : ℕ) : ∀ (k : Fin 2) (r : Fin 7), due n (at_ 1 r k) = n := by
  intro k r
  fin_cases k <;> fin_cases r <;> simp [due, order]
theorem due_done (n : ℕ) : ∀ (k : Fin 2) (r : Fin 7), due n (at_ 3 r k) = n := by
  intro k r
  fin_cases k <;> fin_cases r <;> simp [due, order]

theorem sum_peer (c : Dev nD) (x y : Cl) (n : ℕ) (r : Fin 7) :
    ∑ d : Dev nD, (tallyAt (cell (peer d r) y) () n : CellTallies nD τ sig Unit) (cell c x) () = if x = y then n else 0 := by
  have h (d : Dev nD) : (tallyAt (cell (peer d r) y) () n : CellTallies nD τ sig Unit) (cell c x) () = if d = peer c r then (if x = y then n else 0) else 0 := by
    rw [tallyAt_apply]
    by_cases hd : d = peer c r
    · subst hd
      rw [peer_peer, if_pos rfl]
      by_cases hx : x = y
      · subst hx; rw [if_pos ⟨rfl, rfl⟩, if_pos rfl]
      · rw [if_neg (fun h => hx (congrArg Prod.snd (cell_inj (a₁ := (c, x)) (a₂ := (c, y)) h.1))), if_neg hx]
    · rw [if_neg (fun h => hd ((peer_eq_iff c d r).mp (congrArg Prod.fst (cell_inj (a₁ := (c, x)) (a₂ := (peer d r, y)) h.1)))), if_neg hd]
  rw [Finset.sum_congr rfl fun d _ => h d, Finset.sum_ite_eq' Finset.univ (peer c r) fun _ => if x = y then n else 0, if_pos (Finset.mem_univ _)]

theorem sum_list (c : Dev nD) (x : Cl) (y : Fin 7 → Cl) (n : ℕ) (l : List (Fin 7)) :
    ∑ d : Dev nD, ((l.map fun r => (tallyAt (cell (peer d r) (y r)) () n : CellTallies nD τ sig Unit)).sum) (cell c x) () = (l.map fun r => if x = y r then n else 0).sum := by
  induction l with
  | nil => simp
  | cons r l ih =>
    simp only [List.map_cons, List.sum_cons]
    rw [← ih, ← sum_peer c x (y r) n r, ← Finset.sum_add_distrib]
    rfl

theorem sum_owed (c : Dev nD) (x : Cl) : ∑ d : Dev nD, O₀ d (cell c x) () = due N x := by
  unfold due
  rw [← sum_list c x (fun _ => bar) 1 order, ← sum_list c x (fun r => at_ 1 r 0) N order, ← sum_list c x (fun r => at_ 1 r 1) N order,
    ← sum_list c x (fun r => at_ 3 r 0) N order, ← sum_list c x (fun r => at_ 3 r 1) N order, Nat.add_zero,
    ← Finset.sum_add_distrib, ← Finset.sum_add_distrib, ← Finset.sum_add_distrib, ← Finset.sum_add_distrib]
  refine Finset.sum_congr rfl fun d _ => ?_
  unfold O₀ owePart oweDone
  rw [add_zero]
  rfl

theorem launch_cell (c : Dev nD) (x : Cl) :
    tallyOn (cell c x) (launchCredit (Pipeline.owing O₀) 0 (cell c x)) = (tallyAt (cell c x) () (due N x) : CellTallies nD τ sig Unit) := by
  unfold tallyAt; refine congrArg _ (Finsupp.ext fun u => ?_); cases u
  rw [Pipeline.launchCredit_owing, Finsupp.single_eq_same, sum_owed]

theorem creds (c : Dev nD) :
    (Pipeline.launchCred O₀ c : sProp 𝕄) ⊢ iprop(cred (tallyAt (cell c bar) () 7) ∗ both (credOf c 1) ∗ both (credOf c 3)) := by
  unfold Pipeline.launchCred
  refine (bigSep_subset (Finset.subset_univ (Finset.univ.map ⟨csem, csem_inj⟩))).trans ?_
  rw [bigSep_map]
  refine (Entails.of_eq (bigSep_congr (Ψ := fun x : Cl => (cred (tallyAt (cell c x) () (due N x)) : sProp 𝕄)) fun x _ => congrArg cred (launch_cell c x))).trans ?_
  rw [cells_split]
  simp only [due_part, due_done, due_bar]
  iintro ⟨H, -, H1, -, H3⟩
  isplitl [H]; · iexact H
  isplitl [H1]; · iexact H1
  iexact H3

end Credit

/-! ## Semaphores -/

section Sems

theorem ownSemFacts : Pipeline.OwnSemFacts cfg0.spec osem := by decide +kernel

theorem unscopedSems0_eq (c : Dev nD) : (unscopedSems0 c : sProp 𝕄) = semVal (cell c bar) 0 := by
  unfold unscopedSems0; rw [bigSep_eq_bigSepL_of_eq [SemLoc.reg barSem] (by decide +kernel) (by decide)]; rfl

/-- The tables' entries are the kernel's own semaphores, the barrier's the one besides. -/
theorem sems0_eq (c : Dev nD) :
    (bigSep Finset.univ fun x : Cl => (semVal (cell c x) 0 : sProp 𝕄))
      = iprop(unscopedSems0 c ∗ Pipeline.ownSems0 (Ix := Unit) (Name := ℕ) (U := UU) (Lvl := ℕ) (Val := Elt F) (τ := τ) osem c) := by
  unfold Pipeline.ownSems0
  rw [unscopedSems0_eq, copies_split, cells_split]

variable (a : Dev nD → Vec F S512x256 .f32) (b : Dev nD → Vec F S256x512 .f32) (κ : Dev nD × Cl → ℕ)

/-- The cells of a device close at the end. -/
theorem close_cells (c : Dev nD) :
    iprop(records a b κ ∗ bigSep Finset.univ fun x : Cl => atPos ER (cell c x) 1 ∅ 0)
      ⊢ |={Set.univ}=> (bigSep Finset.univ fun x : Cl => (semVal (cell c x) 0 : sProp 𝕄)) := by
  refine (bigSep_with_persistent (R := records a b κ) (Ψ := fun x : Cl => iprop(|={Set.univ}=> semVal (cell c x) 0)) fun x _ => ?_).trans (bigSep_fupd _ _)
  iintro ⟨#HR, Hat⟩
  iapply (Rounds.cell_close ER (rd a b) (Set.mem_univ (κ (c, x))) (fun h => h) (R := 0 + 1) (duties_later a b (cell c x)))
  isplitr; · iapply (records_inv a b κ (c, x)); iexact HR
  iexact Hat

end Sems

end Cert.KernelIdeal.Work

end
-- ==== Proof.Run.lean ====
/-
# The run

For any float values, from any memory with zero counters: every execution ends, each device's result array holds the
computed contents, the arguments are unchanged and every counter is zero.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The factors as staged. -/
def aOf (c : Dev nD) : Vec F S512x256 .f32 := (win0_0.blk t0_0).view.read (Elt F) (m ((c : Thread nD τ).loc main_arg0))
def bOf (c : Dev nD) : Vec F S256x512 .f32 := (win0_1.blk t0_0).view.read (Elt F) (m ((c : Thread nD τ).loc main_arg1))
/-- The result every device computes. -/
def outOf : Vec F S512x512 .f32 := outV (aOf m) (bOf m)

/-! ## Ghost state -/

/-- The invariants and the marks. -/
def cellRecs (κ : Dev nD × Cl → ℕ) : sProp 𝕄 :=
  iprop((bigSep Finset.univ fun x : Dev nD × Cl => cellInv ER (rd (aOf m) (bOf m)) (κ x) (cell x.1 x.2))
    ∗ bigSep Finset.univ fun x : Dev nD × Cl => reached ER (cell x.1 x.2) 0)
instance cellRecs_persistent (κ : Dev nD × Cl → ℕ) : BI.Persistent (cellRecs m κ) := by unfold cellRecs; infer_instance

theorem records_intro (κ : Dev nD × Cl → ℕ) : iprop(cellRecs m κ ∗ levAts L lv) ⊢ records (aOf m) (bOf m) κ := by
  unfold cellRecs records
  iintro ⟨⟨H1, H2⟩, H3⟩
  isplitl [H1]; · iexact H1
  isplitl [H2] <;> iassumption

/-- A device's positions and the tokens it pays with. -/
def mine (c : Dev nD) : sProp 𝕄 :=
  iprop((bigSep Finset.univ fun x : Cl => atPos ER (cell c x) 0 ∅ 0) ∗ bigSep Finset.univ fun t : Duty => tokAt (payer c t) t)
/-- What the launch element deals a device, -/
def G (c : Dev nD) : sProp 𝕄 :=
  iprop((bigSep Finset.univ fun x : Cl => roundState ER (rd (aOf m) (bOf m)) (cell c x) 0)
    ∗ (bigSep Finset.univ fun x : Cl => iprop(atPos ER (cell c x) 0 ∅ 0 ∗ reached ER (cell c x) 0)) ∗ bigSep Finset.univ fun t : Duty => tokAt c t)
/-- and what the allocation of the cells makes of it. -/
def G' (c : Dev nD) : sProp 𝕄 := iprop(∃ κ, cellRecs m κ ∗ mine c)

/-- What the body starts from, with the levels and the credit. -/
def start (c : Dev nD) : sProp 𝕄 :=
  iprop((∃ κ, records (aOf m) (bOf m) κ) ∗ mine c ∗ cred (tallyAt (cell c bar) () 7) ∗ both (credOf c 1) ∗ both (credOf c 3))

abbrev scratchAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scratchAny c)
def Φ₁ (c : Dev nD) : sProp 𝕄 := iprop(scratchAny c ∗ unscopedSems0 c ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aOf m c
    | ⟨1, _⟩ => bOf m c
    | ⟨2, _⟩ => outOf m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

section Body

variable (c : Dev nD)

def bodyPre : sProp 𝕄 :=
  iprop(Φ₀ m c ∗ (dats m ρ 0 c).owesAt () (t0_0 : Fin cfg0.N).castSucc
    ∗ (∃ d, owns (c : Thread nD τ) aM fullShare ((dats m ρ 0 c).before (0 : Fin 3) t0_0 d))
    ∗ (∃ d, owns (c : Thread nD τ) bM fullShare ((dats m ρ 0 c).before (1 : Fin 3) t0_0 d))
    ∗ (∃ d, owns (c : Thread nD τ) oM fullShare ((dats m ρ 0 c).before (2 : Fin 3) t0_0 d)))
def bodyPost : sProp 𝕄 :=
  iprop(Φ₁ c ∗ (dats m ρ 0 c).owesAt () (t0_0 : Fin cfg0.N).succ
    ∗ owns (c : Thread nD τ) aM fullShare (aOf m c) ∗ owns (c : Thread nD τ) bM fullShare (bOf m c) ∗ owns (c : Thread nD τ) oM fullShare (outOf m))

theorem before_a (d) : (dats m ρ 0 c).before (0 : Fin 3) t0_0 d = aOf m c := by unfold Dat.before; rw [if_pos (fetch0_0 t0_0)]; rfl
theorem before_b (d) : (dats m ρ 0 c).before (1 : Fin 3) t0_0 d = bOf m c := by unfold Dat.before; rw [if_pos (fetch0_1 t0_0)]; rfl

theorem pos_split : (bigSep Finset.univ fun x : Cl => (atPos ER (cell c x) 0 ∅ 0 : sProp 𝕄))
    = iprop(atPos ER (cell c bar) 0 ∅ 0 ∗ both (pos c 0) ∗ both (pos c 1) ∗ both (pos c 2) ∗ both (pos c 3)) := cells_split _
theorem past_split : (bigSep Finset.univ fun x : Cl => (atPos ER (cell c x) 1 ∅ 0 : sProp 𝕄))
    = iprop(atPos ER (cell c bar) 1 ∅ 0 ∗ both (past c 0) ∗ both (past c 1) ∗ both (past c 2) ∗ both (past c 3)) := cells_split _

theorem owed_first : (dats m ρ 0 c).owesAt () (t0_0 : Fin cfg0.N).castSucc ⊢ (owing c (O₀ c) : sProp 𝕄) := by
  unfold Dat.owesAt Pipeline.owesWithin owing
  iintro ⟨%W, -, H⟩
  iexists W; iexact H
theorem owed_last : (owing c 0 : sProp 𝕄) ⊢ (dats m ρ 0 c).owesAt () (t0_0 : Fin cfg0.N).succ := by
  unfold Dat.owesAt Pipeline.owesWithin owing
  iintro ⟨%W, H⟩
  iexists W
  isplitr; · ipureintro; exact fun _ _ => Or.inl trivial
  iexact H

theorem sound_body :
    bodyPre m ρ c ⊢ wp frame (wpE (defs₀ (F := F)) 𝒱₀ (c : Thread nD τ) none) Set.univ
      (cc0_body (F := F) aM (Memref.isWhole_whole _) bM (Memref.isWhole_whole _) oM (Memref.isWhole_whole _) sM (Memref.isWhole_whole _) cc0_scratch1 cc0_scratch2 cc0_scratch3 cc0_scratch4)
      (fun _ => bodyPost m ρ c) := by
  rw [cc0_body_eq_listed]
  simp only [wp_deviceId]
  unfold bodyPre Φ₀ start mine
  simp only [before_a, before_b]
  rw [pos_split, toks_deal]
  iintro ⟨⟨⟨⟨%κ, #HR⟩, ⟨Hpos, Htok⟩, Hcr⟩, ⟨%f, Hs⟩⟩, HO, ⟨%d0, Ha⟩, ⟨%d1, Hb⟩, ⟨%d2, Ho⟩⟩
  iapply (run_listed (aOf m) (bOf m) κ c (fun _ => bodyPost m ρ c)) $$ [HO Ha Hb Hs Ho Htok Hcr Hpos]
  · isplitr; · iexact HR
    unfold bodyIn factors
    isplitl [HO]; · iapply (owed_first m ρ c); iexact HO
    isplitl [Ha Hb]
    · isplitl [Ha] <;> iassumption
    isplitl [Hs]; · iapply (slots_of c f); iexact Hs
    isplitl [Ho]; · iapply (tiles_of c _); iexact Ho
    isplitl [Htok]; · iexact Htok
    isplitl [Hcr] <;> iassumption
  unfold bodyOut factors
  rw [← past_split]
  iintro ⟨HO, ⟨Ha, Hb⟩, Hs, Ht, Hpos⟩
  imod (close_cells (aOf m) (bOf m) κ c) $$ [Hpos] with Hsem
  · isplitr; · iexact HR
    iexact Hpos
  ihave Hsem' := (Entails.of_eq (sems0_eq (F := F) c)) $$ Hsem
  rw [wp_ret]
  imodintro
  unfold bodyPost Φ₁
  isplitl [Hs Hsem']
  · isplitl [Hs]; · iapply (slots_join c); iexact Hs
    iexact Hsem'
  isplitl [HO]; · iapply (owed_last m ρ c); iexact HO
  isplitl [Ha]; · iexact Ha
  isplitl [Hb]; · iexact Hb
  iapply (tiles_join c (aOf m) (bOf m)); iexact Ht

set_option maxRecDepth 20000 in
/-- The body obligation. -/
theorem body_obligation : BodyObligation (dats (F := F) m ρ 0 c) (defs₀ (F := F)) 𝒱₀ () Set.univ := fun t => by
  rw [fin_N0 t, bigSep_W0, bigSep_W0]
  exact sound_body m ρ c

end Body

/-! ## The launch -/

theorem share_eq (c : Dev nD) (w : Fin cfg0.W) : (dats m ρ 0 c).share w = fullShare := by unfold Dat.share; split <;> rfl

/-- All cells and all tokens. -/
def theCells : Finset (GSem nD τ sig) := Finset.univ.map ⟨fun x : Dev nD × Cl => cell x.1 x.2, cell_inj⟩
def theToks : Finset (GSem nD τ sig × ℕ × Fin 7) := Finset.univ.map ⟨tokOf, tokOf_inj⟩
def u₀ : UU := (initOf (Pipeline.cells cfgs cellOf_inj) (Pipeline.launchToks cfgs cellOf_inj), initOf theCells theToks)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun x : Cl => Φ (cell c x) := by
    unfold theCells; rw [bigSep_map, bigSep_univ_prod]; rfl
  have hT : bigSep theToks (fun x => (dutyTok ER x.1 x.2.1 x.2.2 : sProp 𝕄)) = bigSep Finset.univ fun c : Dev nD => bigSep Finset.univ fun t : Duty => tokAt c t := by
    unfold theToks; rw [bigSep_map, bigSep_univ_prod]; rfl
  iintro HX
  imod (Rounds.fund ER (rd (aOf m) (bOf m)) theCells theToks) $$ HX with ⟨Hst, Hr, Hat, Htok⟩
  imodintro
  ihave Hst' := (Entails.of_eq (hX fun g => roundState ER (rd (aOf m) (bOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cl => iprop(∃ κ : ℕ, cellInv ER (rd (aOf m) (bOf m)) κ (cell c x)))
          ∗ (bigSep Finset.univ fun x : Cl => iprop(atPos ER (cell c x) 0 ∅ 0 ∗ reached ER (cell c x) 0)) ∗ bigSep Finset.univ fun t : Duty => tokAt c t) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun x : Cl => semVal (cell c x) 0) ∗ bigSep Finset.univ fun x : Cl => roundState ER (rd (aOf m) (bOf m)) (cell c x) 0)
      ⊢ (|={Set.univ}=> bigSep Finset.univ fun x : Cl => iprop(∃ κ : ℕ, cellInv ER (rd (aOf m) (bOf m)) κ (cell c x)) : sProp 𝕄) from by
        rw [← bigSep_sep']
        exact (bigSep_mono fun x _ => (Rounds.body_intro ER (rd (aOf m) (bOf m)) (cell c x)).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun x : Cl => iprop(∃ κ : ℕ, cellInv ER (rd (aOf m) (bOf m)) κ (cell c x)))
          ∗ (bigSep Finset.univ fun x : Cl => iprop(atPos ER (cell c x) 0 ∅ 0 ∗ reached ER (cell c x) 0)) ∗ bigSep Finset.univ fun t : Duty => tokAt c t) : sProp 𝕄)
      ⊢ bigSep Finset.univ (G' m) := by
  rw [bigSep_sep', bigSep_sep', ← bigSep_univ_prod (fun x : Dev nD × Cl => iprop(∃ κ : ℕ, cellInv ER (rd (aOf m) (bOf m)) κ (cell x.1 x.2))),
    bigSep_congr (s := Finset.univ) (fun (c : Dev nD) _ => bigSep_sep' Finset.univ (fun x : Cl => (atPos ER (cell c x) 0 ∅ 0 : sProp 𝕄)) (fun x => reached ER (cell c x) 0)),
    bigSep_sep', ← bigSep_univ_prod (fun x : Dev nD × Cl => (reached ER (cell x.1 x.2) 0 : sProp 𝕄)), toks_around]
  iintro ⟨HI, ⟨Hat, #HR⟩, Htok⟩
  ihave HK := (BI.bigSep_exists_pi Finset.univ (fun (x : Dev nD × Cl) (κ : ℕ) => (cellInv ER (rd (aOf m) (bOf m)) κ (cell x.1 x.2) : sProp 𝕄))) $$ HI
  icases HK with ⟨%κ, #HI⟩
  iapply (bigSep_with_persistent (R := cellRecs m κ) (Φ := fun c : Dev nD => mine c) (Ψ := G' m) fun c _ => (by
    unfold G'
    iintro ⟨#H1, H2⟩
    iexists κ
    isplitr; · iexact H1
    iexact H2))
  isplitr
  · unfold cellRecs; isplitl; · iexact HI
    iexact HR
  · unfold mine; rw [bigSep_sep']
    isplitl [Hat]; · iexact Hat
    iexact Htok

/-- All the cells' invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%κ, Hrec, Hmine⟩⟩
  imodintro
  unfold start
  isplitl
  · isplitl [Hrec Hlev]
    · iexists κ
      iapply (records_intro m κ)
      isplitl [Hrec] <;> iassumption
    isplitl [Hmine]; · iexact Hmine
    iapply (creds (F := F) c); iexact Hcr
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hu, Ho⟩
  isplitl [Hu]; · iexact Hu
  isplitl [Ho] <;> iassumption

theorem stage_dec : ∀ (w : Fin 3) (s : Fin (spec0 w).nbuf), lvOf (dec (.dma ((spec0 w).sem s))) ≤ 0 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (stage_dec w s) (above_O₀ c)
    · exact mayWait c _ 0 (stage_dec w s) (Above.zero 0)

/-! ## The run -/

def finalA (c : Dev nD) (w : Fin cfg0.W) : Buf (Elt F) ((cfg0.win w).arr.view.loc (c : Thread nD τ)) := (dats m ρ 0 c).arrAt w cfg0.N

/-- Each window's array ends at its final contents. -/
def Ended : PUnit × MemSt nD τ sig (Elt F) → Prop := fun r =>
  ∀ c : Dev nD, ∀ w : Fin cfg0.W, r.2.mem ((cfg0.win w).arr.view.loc (c : Thread nD τ)) = finalA m ρ c w

set_option maxRecDepth 20000 in
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Work

end
-- ==== Proof.Final.lean ====
/-
# What the run leaves

Each array after the run: the arguments as they were, the result at the computed contents, on every device; and the two
kernel frames.
-/
module

public import proofs.«01_k».proof.Proof.Run
public import proofs.«01_k».proof.Defs
public import proofs.«01_k».proof.Proof.Gen.Kernel
public import Idealize.ShloMosaic.Lib.Pipeline.Value

@[expose] public section

noncomputable section

namespace Cert.KernelIdeal.Work

open Cert.KernelIdeal Cert.KernelIdeal.Gen
open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- A window's block is its whole array. -/
theorem blk_a (i : S512x256.Idx) : (win0_0.blk t0_0).view.emb i = i := by
  funext x; apply Fin.ext
  match x with
  | ⟨0, _⟩ => show 0 * 512 + 1 * (i (0 : Fin 2)).val = (i (0 : Fin 2)).val; omega
  | ⟨1, _⟩ => show 0 * 256 + 1 * (i (1 : Fin 2)).val = (i (1 : Fin 2)).val; omega
theorem blk_b (i : S256x512.Idx) : (win0_1.blk t0_0).view.emb i = i := by
  funext x; apply Fin.ext
  match x with
  | ⟨0, _⟩ => show 0 * 256 + 1 * (i (0 : Fin 2)).val = (i (0 : Fin 2)).val; omega
  | ⟨1, _⟩ => show 0 * 512 + 1 * (i (1 : Fin 2)).val = (i (1 : Fin 2)).val; omega
theorem blk_o (i : S512x512.Idx) : (win0_2.blk t0_0).view.emb i = i := by
  funext x; apply Fin.ext
  match x with
  | ⟨0, _⟩ => show 0 * 512 + 1 * (i (0 : Fin 2)).val = (i (0 : Fin 2)).val; omega
  | ⟨1, _⟩ => show 0 * 512 + 1 * (i (1 : Fin 2)).val = (i (1 : Fin 2)).val; omega

theorem aOf_eq (c : Dev nD) : aOf m c = m ((c : Thread nD τ).loc main_arg0) := by
  funext i
  show m ((c : Thread nD τ).loc main_arg0) ((win0_0.blk t0_0).view.emb i) = _
  rw [blk_a]
theorem bOf_eq (c : Dev nD) : bOf m c = m ((c : Thread nD τ).loc main_arg1) := by
  funext i
  show m ((c : Thread nD τ).loc main_arg1) ((win0_1.blk t0_0).view.emb i) = _
  rw [blk_b]

theorem final_a (c : Dev nD) : finalA m ρ c (0 : Fin 3) = m ((c : Thread nD τ).loc main_arg0) :=
  (dats (F := F) m ρ 0 c).arrAt_in (0 : Fin 3) rfl _
theorem final_b (c : Dev nD) : finalA m ρ c (1 : Fin 3) = m ((c : Thread nD τ).loc main_arg1) :=
  (dats (F := F) m ρ 0 c).arrAt_in (1 : Fin 3) rfl _
theorem final_o (c : Dev nD) : finalA m ρ c (2 : Fin 3) = outOf m := by
  funext i
  refine ((dats (F := F) m ρ 0 c).arrAt_apply_of_mem (2 : Fin 3) (outOf m) (fun t _ => ?_) cfg0.N t0_0 i t0_0.isLt (flush0_2 t0_0) ?_)
  · rw [fin_N0 t]
    funext j
    show outOf m _ = outOf m ((win0_2.blk t0_0).view.emb j)
    rw [blk_o]
  · exact Finset.mem_map.mpr ⟨i, Finset.mem_univ _, blk_o i⟩

/-- Every execution ends with the result computed on every device, the arguments unchanged and every counter at zero. -/
theorem run_ended : θ_run defs (onTc (τ := τ) (main (F := F))) ⟨m, fun _ => 0, ρ⟩ (fun r => (∀ c : Dev nD,
    r.2.mem ((c.tc : Thread nD τ).loc main_v1) = outV (fun c => m ((c : Thread nD τ).loc main_arg0)) (fun c => m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) := by
  refine (θ_run defs _ _).mono (fun r h => ⟨fun c => ⟨?_, ?_, ?_⟩, h.2⟩) (run_main m ρ)
  · refine (h.1 c (2 : Fin 3)).trans ((final_o m ρ c).trans ?_)
    show outV (aOf m) (bOf m) = _
    rw [show aOf m = _ from funext (aOf_eq m), show bOf m = _ from funext (bOf_eq m)]
  · exact (h.1 c (0 : Fin 3)).trans (final_a m ρ c)
  · exact (h.1 c (1 : Fin 3)).trans (final_b m ρ c)

/-- The frame, for any float values. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_ended m ρ)

/-! ## The frames -/

theorem frame_ideal : Cert.quiescent_KernelIdeal := fun m ρ _ => run_frame (F := Ideal) m ρ

/-- The two kernel programs have the same text, so their kernel functions are equal, label by label. -/
theorem bodies_eq : Cert.Kernel.defs₀ (F := F) = Cert.KernelIdeal.defs₀ (F := F) := by
  refine congrArg Defs.onTc (funext fun l => funext fun x => ?_)
  match l, x with
  | ⟨0, _⟩, (t, s) => rfl
theorem defs_eq : Cert.Kernel.defs (F := F) = Cert.KernelIdeal.defs (F := F) := congrArg (Pipeline.defs pcfgs) bodies_eq

theorem frame_kernel : Cert.quiescent_Kernel := fun m ρ _ => by
  rw [defs_eq]
  exact run_frame (F := Bits) m ρ

end Cert.KernelIdeal.Work

end
-- ==== Proof.Equation.lean ====
/-
# The equation

Over the extended reals: the kernel's result, each entry the larger of zero and eight sums of 256 products added peer by
peer, is the reference's, the larger of zero and one sum of 2048 products. With it the value claim.
-/
module

public import proofs.«01_k».proof.Proof.Final
public import proofs.«01_k».proof.Proof.Gen.ReferenceIdeal.Run
public import Idealize.ShloMosaic.Lib.MatmulPlain
public import Idealize.ShloMosaic.Lib.StackMember
public import Idealize.ShloMosaic.Lib.Pointwise.Sums

@[expose] public section

noncomputable section

namespace Cert.KernelIdeal.Work

open Cert.KernelIdeal Cert.KernelIdeal.Gen
open Idealize.ShloMosaic
open Idealize.ShloMosaic.TcCoe
open Idealize.SL.Sem
open scoped BigOperators

/-! ## Sums -/

/-- Adding a list's values one after another onto `z` adds their sum. -/
theorem foldl_plus {M ι : Type} [AddCommMonoid M] (f : ι → M) (l : List ι) (z : M) : l.foldl (fun v r => v + f r) z = z + (l.map f).sum := by
  induction l generalizing z with
  | nil => simp
  | cons r l ih => simp only [List.foldl_cons, List.map_cons, List.sum_cons]; rw [ih, add_assoc]

/-- The visited peers are all seven. -/
theorem sum_order {M : Type} [AddCommMonoid M] (f : Fin 7 → M) : (order.map f).sum = ∑ r, f r := by
  rw [← List.sum_toFinset f (by decide), show order.toFinset = Finset.univ from by decide]

/-- A device and its seven peers are all eight devices. -/
theorem sum_peers {M : Type} [AddCommMonoid M] (e : Dev nD) (g : Dev nD → M) : g e + ∑ r : Fin 7, g (peer e r) = ∑ c : Dev nD, g c := by
  rw [← Finset.add_sum_erase Finset.univ g (Finset.mem_univ e)]
  refine congrArg (g e + ·) (Finset.sum_bij (fun r _ => peer e r) (fun r _ => Finset.mem_erase.mpr ⟨peer_ne e r, Finset.mem_univ _⟩)
    (fun r _ r' _ h => peer_inj e r r' h) (fun d hd => ?_) fun _ _ => rfl)
  obtain ⟨r, hr⟩ := exists_peer e d (Finset.ne_of_mem_erase hd)
  exact ⟨r, Finset.mem_univ _, hr.symm⟩

/-! ## The kernel's values at an entry -/

section Values

variable (a : Dev nD → Vec Ideal S512x256 .f32) (b : Dev nD → Vec Ideal S256x512 .f32)

/-- One device's contribution to the entry in row `r` and column `l`. -/
def share8 (c : Dev nD) (r l : Fin 512) : EReal := ∑ k : Fin 256, (a c (ValueIdx.ix2 r k) : EReal) * b c (ValueIdx.ix2 k l)

/-- A chunk's row `p` among the 512. -/
abbrev rowAt (e : Dev nD) (k : Fin 2) (p : Fin 32) : Fin 512 := ⟨rowOf e k + p.val, by have := rowOf_le e k; have := p.isLt; omega⟩

theorem tile_at (e : Dev nD) (k : Fin 2) (p : Fin 32) (l : Fin 512) : (tile e k).emb (ValueIdx.ix2 p l) = ValueIdx.ix2 (rowAt e k p) l := by
  funext x; apply Fin.ext
  match x with
  | ⟨0, _⟩ => show rowOf e k + 1 * p.val = rowOf e k + p.val; omega
  | ⟨1, _⟩ => show 0 + 1 * l.val = l.val; omega
theorem tileA_at (e : Dev nD) (k : Fin 2) (p : Fin 32) (l : Fin 256) : (tileA e k).emb (ValueIdx.ix2 p l) = ValueIdx.ix2 (rowAt e k p) l := by
  funext x; apply Fin.ext
  match x with
  | ⟨0, _⟩ => show rowOf e k + 1 * p.val = rowOf e k + p.val; omega
  | ⟨1, _⟩ => show 0 + 1 * l.val = l.val; omega
theorem wholeB_at (k : Fin 256) (l : Fin 512) : wholeB.emb (ValueIdx.ix2 k l) = ValueIdx.ix2 k l := by
  funext x; apply Fin.ext
  match x with
  | ⟨0, _⟩ => show 0 + 1 * k.val = k.val; omega
  | ⟨1, _⟩ => show 0 + 1 * l.val = l.val; omega

/-- A product of a chunk, entry by entry. -/
theorem prodV_at (x : Vec Ideal S32x256 .f32) (y : Vec Ideal S256x512 .f32) (p : Fin 32) (l : Fin 512) :
    prodV x y (ValueIdx.ix2 p l) = ∑ k : Fin 256, (x (ValueIdx.ix2 p k) : EReal) * y (ValueIdx.ix2 k l) := by
  show FloatOps.matmul (F := Ideal) (DotDims.plain 32 256 512) none (φ₁ := .f32) (φ₂ := .f32) (shapeCast S32x256 (x : FVec Ideal S32x256 .f32) shapeCasts_S32x256_S32x256)
    (shapeCast S256x512 (y : FVec Ideal S256x512 .f32) shapeCasts_S256x512_S256x512) (constant S32x512 .f32 0x00000000#32) (ValueIdx.ix2 p l) = _
  rw [Ideal.matmul_plain_apply, shapeCast_self, shapeCast_self]
  show Ideal.ofBits .f32 0x00000000#32 + _ = _
  rw [Ideal.ofBits_zero_f32, zero_add]

theorem partV_at (c e : Dev nD) (k : Fin 2) (p : Fin 32) (l : Fin 512) : partV a b c e k (ValueIdx.ix2 p l) = share8 a b c (rowAt e k p) l := by
  unfold partV
  rw [prodV_at]
  unfold share8
  refine Finset.sum_congr rfl fun q _ => ?_
  rw [tileA_at, wholeB_at]

/-- A step of the accumulation adds. -/
theorem plusV_eq (x y : FVec Ideal S32x512 .f32) : plusV x (asSlot y) = fun j => (x j : EReal) + y j := by
  funext j
  exact congrArg₂ (fun u v : EReal => u + v) (congrFun (shapeCast_self x shapeCasts_S32x512_S32x512) j)
    (congrFun (shapeCast_shapeCast y squeezes_S1x32x512_S32x512.numel_eq.symm shapeCasts_S1x32x512_S32x512) j)

theorem accV_at (e : Dev nD) (k : Fin 2) (l : List (Fin 7)) (v : FVec Ideal S32x512 .f32) (j : S32x512.Idx) :
    l.foldl (fun v r => plusV v (asSlot (partV a b (peer e r) e k))) v j = l.foldl (fun (s : EReal) r => s + partV a b (peer e r) e k j) (v j) := by
  induction l generalizing v with
  | nil => rfl
  | cons r l ih => simp only [List.foldl_cons]; rw [ih, plusV_eq]

/-- An entry of a finished chunk: the larger of zero and all devices' contributions. -/
theorem finV_at (e : Dev nD) (k : Fin 2) (p : Fin 32) (l : Fin 512) :
    finV a b e k (ValueIdx.ix2 p l) = max (∑ c : Dev nD, share8 a b c (rowAt e k p) l) (0 : EReal) := by
  show max (shapeCast S32x512 (accV a b e k order) _ (ValueIdx.ix2 p l)) (Ideal.ofBits .f32 0x00000000#32) = _
  rw [shapeCast_self, Ideal.ofBits_zero_f32]
  unfold accV
  rw [accV_at, foldl_plus, sum_order, partV_at, ← sum_peers e]
  simp only [partV_at]

/-- An entry of the result. -/
theorem outV_at (r l : Fin 512) : outV a b (ValueIdx.ix2 r l) = max (∑ c : Dev nD, share8 a b c r l) (0 : EReal) := by
  obtain ⟨x, hx⟩ := rowOf_onto ⟨r.val / 32, by have := r.isLt; omega⟩
  have hr : rowAt x.1 x.2 ⟨r.val % 32, Nat.mod_lt _ (by decide)⟩ = r := Fin.ext (by
    show rowOf x.1 x.2 + r.val % 32 = r.val
    rw [hx]; show 32 * (r.val / 32) + r.val % 32 = r.val; omega)
  have h := outV_emb a b x (ValueIdx.ix2 ⟨r.val % 32, Nat.mod_lt _ (by decide)⟩ l)
  rw [tile_at, hr] at h
  rw [h]
  exact (finV_at a b x.1 x.2 _ l).trans (by rw [hr])

end Values

/-! ## The reference's result -/

/-- The whole product's entry is the sum of the eight blocks' contributions. -/
theorem sum_blocks (A : Vec Ideal ⟨2, ![512, 2048]⟩ .f32) (B : Vec Ideal ⟨2, ![2048, 512]⟩ .f32) (r l : Fin 512) :
    (∑ c : Dev nD, share8 (fun c => Layout.block ⟨2, ![512, 256]⟩ ⟨2, ![512, 2048]⟩ 1 8 c A) (fun c => Layout.block ⟨2, ![256, 512]⟩ ⟨2, ![2048, 512]⟩ 0 8 c B) c r l)
      = ∑ k : Fin 2048, (A (ValueIdx.ix2 r k) : EReal) * B (ValueIdx.ix2 k l) := by
  rw [Idealize.ShloMosaic.Fin.sum_univ_tiles 8 256 rfl]
  refine Finset.sum_congr rfl fun c _ => Finset.sum_congr rfl fun k _ => ?_
  refine congrArg₂ (fun x y : EReal => x * y) (congrArg A ?_) (congrArg B ?_)
  all_goals
    funext x; apply Fin.ext
    match x with
    | ⟨0, _⟩ => rfl
    | ⟨1, _⟩ => rfl

/-- The kernel's result from the blocks of two whole matrices is the reference's result from the matrices. -/
theorem result_eq (A : Vec Ideal ⟨2, ![512, 2048]⟩ .f32) (B : Vec Ideal ⟨2, ![2048, 512]⟩ .f32) :
    outV (fun c : Dev nD => Layout.block ⟨2, ![512, 256]⟩ ⟨2, ![512, 2048]⟩ 1 8 c A) (fun c : Dev nD => Layout.block ⟨2, ![256, 512]⟩ ⟨2, ![2048, 512]⟩ 0 8 c B)
      = maximumf (Host.dotGeneral (φ₁ := .f32) (φ₂ := .f32) Cert.ReferenceIdeal.dot_S512x2048_S2048x512_S512x512_1_0_0_1_n_n none A B)
          (broadcastInDim Cert.ReferenceIdeal.S512x512 ![] Cert.ReferenceIdeal.Gen.bcast_S_S512x512 (constant Cert.ReferenceIdeal.S_ .f32 0x00000000#32)) := by
  funext i
  obtain ⟨r, l, rfl⟩ : ∃ (r l : Fin 512), i = ValueIdx.ix2 r l := ⟨i 0, i 1, ValueIdx.eq_ix2 i⟩
  rw [outV_at, sum_blocks]
  show _ = max (Host.dotGeneral (F := Ideal) (φ₁ := .f32) (φ₂ := .f32) (DotDims.plain 512 2048 512) none A B (ValueIdx.ix2 r l)) (Ideal.ofBits .f32 0x00000000#32)
  rw [StackMember.dotGeneral_plain_apply, Ideal.ofBits_zero_f32]

/-- The value claim. -/
theorem value : Cert.algebraic_KernelIdeal_ReferenceIdeal := by
  intro m g m' g' _ hm
  refine ⟨_, (θ_run defs _ _).mono (fun r h c => ?_) (run_ended (F := Ideal) m g),
    (θ_run Cert.ReferenceIdeal.defs _ _).mono (fun r h => h 0) (Cert.ReferenceIdeal.Value.run (F := Ideal) m' g')⟩
  refine ⟨(h.1 c).1.trans ?_, (h.1 c).2⟩
  rw [show (fun c : Dev nD => m ((c : Thread nD τ).loc main_arg0)) = _ from funext fun c => (hm c).1,
    show (fun c : Dev nD => m ((c : Thread nD τ).loc main_arg1)) = _ from funext fun c => (hm c).2]
  exact result_eq _ _

/-- The reference declares no semaphore, so its counters are zero at its end, as at its start. -/
theorem frame_reference : Cert.quiescent_ReferenceIdeal := fun m ρ _ =>
  (θ_run Cert.ReferenceIdeal.defs _ _).mono (fun r h => ⟨fun c => (h c).2, funext fun x => match x with
    | (_, .reg s) => s.elim0
    | (_, .dma s) => s.elim0⟩) (Cert.ReferenceIdeal.Value.run (F := Ideal) m ρ)

end Cert.KernelIdeal.Work

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: the three frames, the idealization (the same text), and the equation over the extended reals. -/
theorem claim : Cert.Claim := ⟨Cert.Kernel.Gen.facts, Cert.KernelIdeal.Gen.facts, Cert.ReferenceIdeal.Gen.facts,
  Cert.KernelIdeal.Work.frame_kernel, Cert.KernelIdeal.Work.frame_ideal, Cert.KernelIdeal.Work.frame_reference, trivial,
  Cert.KernelIdeal.Work.value⟩

end Cert.Proof

end
